-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_resolved [hPre_resolved : Cert.Pre_resolved.Facts] (m : (ℓ : Loc Cert.KernelIdeal.nD Cert.KernelIdeal.τ Cert.KernelIdeal.sig) → Buf (Elt Ideal) ℓ) : Prop :=
  ∀ c : Dev Cert.KernelIdeal.nD,
    (Cert.Pre_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_resolved [hPre_resolved : Cert.Pre_resolved.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_resolved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_resolved [hKernelIdeal : Cert.KernelIdeal.Facts] [hPre_resolved : Cert.Pre_resolved.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_resolved m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_resolved [hReferenceIdeal : Cert.ReferenceIdeal.Facts] [hPre_resolved : Cert.Pre_resolved.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_resolved m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_T" .f32 0x3FA00000#32 ((16777216 / 13421773 : ℝ) : EReal)
  ∧ IdealRules.named_const.Statement Cert.KernelIdeal.κ "two_over_T" .f32 0x40200000#32 ((33554432 / 13421773 : ℝ) : EReal)

def algebraic_KernelIdeal_ReferenceIdeal_pre_resolved [hKernelIdeal : Cert.KernelIdeal.Facts] [hReferenceIdeal : Cert.ReferenceIdeal.Facts] [hPre_resolved : Cert.Pre_resolved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_resolved m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_resolved : Cert.Pre_resolved.Facts),
    quiescent_Kernel (hKernel := hKernel)
    ∧ quiescent_KernelIdeal (hKernelIdeal := hKernelIdeal)
    ∧ quiescent_KernelIdeal_pre_resolved (hKernelIdeal := hKernelIdeal) (hPre_resolved := hPre_resolved)
    ∧ quiescent_ReferenceIdeal (hReferenceIdeal := hReferenceIdeal)
    ∧ quiescent_ReferenceIdeal_pre_resolved (hReferenceIdeal := hReferenceIdeal) (hPre_resolved := hPre_resolved)
    ∧ preserves_Kernel_KernelIdeal
    ∧ algebraic_KernelIdeal_ReferenceIdeal_pre_resolved (hKernelIdeal := hKernelIdeal) (hReferenceIdeal := hReferenceIdeal) (hPre_resolved := hPre_resolved)
-- ==== Pre_resolved.lean ====
abbrev S512x512 : Shape := ⟨2, ![512, 512]⟩
abbrev S512 : Shape := ⟨1, ![512]⟩
abbrev S16x512 : Shape := ⟨2, ![16, 512]⟩
abbrev S_ : Shape := ⟨0, ![]⟩
abbrev S1x512 : Shape := ⟨2, ![1, 512]⟩
abbrev S512x1 : Shape := ⟨2, ![512, 1]⟩
abbrev S16 : Shape := ⟨1, ![16]⟩
abbrev S16x1 : Shape := ⟨2, ![16, 1]⟩
abbrev S16x512x1 : Shape := ⟨3, ![16, 512, 1]⟩
abbrev S1x512x512 : Shape := ⟨3, ![1, 512, 512]⟩
abbrev S16x512x512 : Shape := ⟨3, ![16, 512, 512]⟩
abbrev S512x512x1 : Shape := ⟨3, ![512, 512, 1]⟩
abbrev S512x1x512 : Shape := ⟨3, ![512, 1, 512]⟩
abbrev S512x512x512 : Shape := ⟨3, ![512, 512, 512]⟩

class Facts : Prop where
  reducesTo_S512_S_d0 : S512.ReducesTo [0] S_
  h_S_ : 0 < S_.numel
  bcast_S_S512 : S_.BroadcastsInDim S512 (![] : Fin 0 → Fin S512.rank)
  transposes_S512x512_S512x512_1_0 : S512x512.Transposes [1, 0] S512x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  reducesTo_S512x512_S512_d1 : S512x512.ReducesTo [1] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  bcast_S512x512_S1x512x512_1_2 : S512x512.BroadcastsInDim S1x512x512 (![1, 2] : Fin 2 → Fin S1x512x512.rank)
  natLt_16_32 : 16 < 32
  bcast_S1x512x512_S16x512x512_0_1_2 : S1x512x512.BroadcastsInDim S16x512x512 (![0, 1, 2] : Fin 3 → Fin S16x512x512.rank)
  bcast_S16x512x1_S16x512x512_0_1_2 : S16x512x1.BroadcastsInDim S16x512x512 (![0, 1, 2] : Fin 3 → Fin S16x512x512.rank)
  reducesTo_S16x512x512_S512x512_d0 : S16x512x512.ReducesTo [0] S512x512
  bcast_S_S512x512 : S_.BroadcastsInDim S512x512 (![] : Fin 0 → Fin S512x512.rank)
  reducesTo_S512x512_S_d0_1 : S512x512.ReducesTo [0, 1] S_
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  reducesTo_S512x512x512_S_d0_1_2 : S512x512x512.ReducesTo [0, 1, 2] S_
  reducesTo_S512x512x512_S512x512_d2 : S512x512x512.ReducesTo [2] S512x512
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []

variable [Facts]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def fn_norm {F : FTy → Type} [FloatOps F] (arg0 : FVec F S512x512 .f32) : FVec F S512x1 .f32 :=
  let v0 : FVec F S512x512 .f32 := mulf arg0 arg0
  let cst : FVec F S_ .f32 := constant S_ .f32 0x00000000#32
  let v1 : FVec F S512 .f32 := (fun x v => Host.reduceAdd x v reducesTo_S512x512_S512_d1 h_S_) v0 cst
  let v2 : FVec F S512x1 .f32 := broadcastInDim S512x1 ![0] bcast_S512_S512x1_0 v1
  let v3 : FVec F S512x1 .f32 := Host.sqrt v2
  v3

def fn_part6 {F : FTy → Type} [FloatOps F] (main_v77 : IVec S_ 1) (main_v119 : IVec S512x512x512 1) (main_v121 : FVec F S512x1x512 .f32) (main_v122 : FVec F S512x512x512 .f32) : IVec S_ 1 :=
  let main_v123 : FVec F S512x512x512 .f32 := broadcastInDim S512x512x512 ![0, 1, 2] bcast_S512x1x512_S512x512x512_0_1_2 main_v121
  let main_v124 : IVec S512x512x512 1 := cmpf .oeq main_v122 main_v123
  let main_v125 : IVec S512x512x512 1 := ori main_v119 main_v124
  let main_c_19 : IVec S_ 1 := constantI S_ 1 1#1
  let main_v126 : IVec S_ 1 := (fun x v => Host.reduce IntOp.andi x v reducesTo_S512x512x512_S_d0_1_2 h_S_) main_v125 main_c_19
  let main_v127 : IVec S_ 1 := andi main_v77 main_v126
  main_v127

def fn_part5 {F : FTy → Type} [FloatOps F] (main_v23 : IVec S512 1) (main_v28 : IVec S512x512 1) (main_v77 : IVec S_ 1) (main_v81 : FVec F S512x512 .f32) (main_v94 : FVec F S512x512 .f32) (main_v100 : IVec S512x512x512 1) (main_v101 : IVec S512x512x512 1) : IVec S_ 1 :=
  let main_v102 : IVec S512x512x512 1 := andi main_v101 main_v100
  let main_v103 : FVec F S512x512x512 .f32 := uitofp .f32 main_v102
  let main_cst_16 : FVec F S_ .f32 := constant S_ .f32 0x00000000#32
  let main_v104 : FVec F S512x512 .f32 := (fun x v => Host.reduceAdd x v reducesTo_S512x512x512_S512x512_d2 h_S_) main_v103 main_cst_16
  let main_v105 : IVec S512x1 1 := broadcastInDim S512x1 ![0] bcast_S512_S512x1_0 main_v23
  let main_v106 : IVec S512x512 1 := broadcastInDim S512x512 ![0, 1] bcast_S512x1_S512x512_0_1 main_v105
  let main_v107 : IVec S512x512 1 := andi main_v106 main_v28
  let main_cst_17 : FVec F S_ .f32 := constant S_ .f32 0x42000000#32
  let main_v108 : FVec F S512x512 .f32 := broadcastInDim S512x512 ![] bcast_S_S512x512 main_cst_17
  let main_v109 : IVec S512x512 1 := cmpf .olt main_v94 main_v108
  let main_v110 : IVec S512x512 1 := andi main_v107 main_v109
  let main_cst_18 : FVec F S_ .f32 := constant S_ .f32 0x42000000#32
  let main_v111 : FVec F S512x512 .f32 := broadcastInDim S512x512 ![] bcast_S_S512x512 main_cst_18
  let main_v112 : IVec S512x512 1 := cmpf .ogt main_v104 main_v111
  let main_v113 : IVec S512x512 1 := andi main_v110 main_v112
  let main_v114 : IVec S512x512x1 1 := broadcastInDim S512x512x1 ![0, 1] bcast_S512x512_S512x512x1_0_1 main_v113
  let main_v115 : IVec S512x1x512 1 := broadcastInDim S512x1x512 ![0, 2] bcast_S512x512_S512x1x512_0_2 main_v113
  let main_v116 : IVec S512x512x512 1 := broadcastInDim S512x512x512 ![0, 1, 2] bcast_S512x512x1_S512x512x512_0_1_2 main_v114
  let main_v117 : IVec S512x512x512 1 := broadcastInDim S512x512x512 ![0, 1, 2] bcast_S512x1x512_S512x512x512_0_1_2 main_v115
  let main_v118 : IVec S512x512x512 1 := andi main_v116 main_v117
  let main_v119 : IVec S512x512x512 1 := noti main_v118
  let main_v120 : FVec F S512x512x1 .f32 := broadcastInDim S512x512x1 ![0, 1] bcast_S512x512_S512x512x1_0_1 main_v81
  let main_v121 : FVec F S512x1x512 .f32 := broadcastInDim S512x1x512 ![0, 2] bcast_S512x512_S512x1x512_0_2 main_v81
  let main_v122 : FVec F S512x512x512 .f32 := broadcastInDim S512x512x512 ![0, 1, 2] bcast_S512x512x1_S512x512x512_0_1_2 main_v120
  fn_part6 (F := F) main_v77 main_v119 main_v121 main_v122

def fn_part4 {F : FTy → Type} [FloatOps F] (main_v12 : FVec F S512x512 .f32) (main_v23 : IVec S512 1) (main_v28 : IVec S512x512 1) (main_v77 : IVec S_ 1) (main_v79 : FVec F S512x512 .f32) : IVec S_ 1 :=
  let main_v80 : FVec F S512x512 .f32 := Host.divf main_v12 main_v79
  let main_v81 : FVec F S512x512 .f32 := (fun l r => Host.dotGeneral dot_S512x512_S512x512_S512x512_1_1_0_0_n_n none l r) main_v80 main_v80
  let main_cst_14 : FVec F S_ .f32 := constant S_ .f32 0x46000000#32
  let main_v82 : FVec F S512x512 .f32 := broadcastInDim S512x512 ![] bcast_S_S512x512 main_cst_14
  let main_v83 : FVec F S512x512 .f32 := mulf main_v81 main_v82
  let main_v84 : FVec F S512x512 .f32 := Host.floor main_v83
  let main_v85 : IVec S512x1x512 1 := broadcastInDim S512x1x512 ![0, 2] bcast_S512x512_S512x1x512_0_2 main_v28
  let main_v86 : FVec F S512x1x512 .f32 := broadcastInDim S512x1x512 ![0, 2] bcast_S512x512_S512x1x512_0_2 main_v84
  let main_v87 : FVec F S512x512x1 .f32 := broadcastInDim S512x512x1 ![0, 1] bcast_S512x512_S512x512x1_0_1 main_v84
  let main_v88 : FVec F S512x512x512 .f32 := broadcastInDim S512x512x512 ![0, 1, 2] bcast_S512x1x512_S512x512x512_0_1_2 main_v86
  let main_v89 : FVec F S512x512x512 .f32 := broadcastInDim S512x512x512 ![0, 1, 2] bcast_S512x512x1_S512x512x512_0_1_2 main_v87
  let main_v90 : IVec S512x512x512 1 := cmpf .ogt main_v88 main_v89
  let main_v91 : IVec S512x512x512 1 := broadcastInDim S512x512x512 ![0, 1, 2] bcast_S512x1x512_S512x512x512_0_1_2 main_v85
  let main_v92 : IVec S512x512x512 1 := andi main_v91 main_v90
  let main_v93 : FVec F S512x512x512 .f32 := uitofp .f32 main_v92
  let main_cst_15 : FVec F S_ .f32 := constant S_ .f32 0x00000000#32
  let main_v94 : FVec F S512x512 .f32 := (fun x v => Host.reduceAdd x v reducesTo_S512x512x512_S512x512_d2 h_S_) main_v93 main_cst_15
  let main_v95 : IVec S512x1x512 1 := broadcastInDim S512x1x512 ![0, 2] bcast_S512x512_S512x1x512_0_2 main_v28
  let main_v96 : FVec F S512x1x512 .f32 := broadcastInDim S512x1x512 ![0, 2] bcast_S512x512_S512x1x512_0_2 main_v84
  let main_v97 : FVec F S512x512x1 .f32 := broadcastInDim S512x512x1 ![0, 1] bcast_S512x512_S512x512x1_0_1 main_v84
  let main_v98 : FVec F S512x512x512 .f32 := broadcastInDim S512x512x512 ![0, 1, 2] bcast_S512x1x512_S512x512x512_0_1_2 main_v96
  let main_v99 : FVec F S512x512x512 .f32 := broadcastInDim S512x512x512 ![0, 1, 2] bcast_S512x512x1_S512x512x512_0_1_2 main_v97
  let main_v100 : IVec S512x512x512 1 := cmpf .oge main_v98 main_v99
  let main_v101 : IVec S512x512x512 1 := broadcastInDim S512x512x512 ![0, 1, 2] bcast_S512x1x512_S512x512x512_0_1_2 main_v95
  fn_part5 (F := F) main_v23 main_v28 main_v77 main_v81 main_v94 main_v100 main_v101

def fn_part3 {F : FTy → Type} [FloatOps F] (main_arg8 : FVec F S512x512 .f32) (main_v12 : FVec F S512x512 .f32) (main_v18 : IVec S_ 1) (main_v23 : IVec S512 1) (main_v28 : IVec S512x512 1) (main_v49 : IVec S512x512 1) (main_v51 : IVec S512x512 1) (main_v58 : IVec S_ 1) : IVec S_ 1 :=
  let main_v59 : IVec S_ 1 := andi main_v18 main_v58
  let main_cst_11 : FVec F S_ .f32 := constant S_ .f32 0x00000000#32
  let main_v60 : FVec F S512x512 .f32 := broadcastInDim S512x512 ![] bcast_S_S512x512 main_cst_11
  let main_v61 : IVec S512x512 1 := cmpf .oge main_arg8 main_v60
  let main_c_12 : IVec S_ 1 := constantI S_ 1 1#1
  let main_v62 : IVec S_ 1 := (fun x v => Host.reduce IntOp.andi x v reducesTo_S512x512_S_d0_1 h_S_) main_v61 main_c_12
  let main_v63 : IVec S_ 1 := andi main_v59 main_v62
  let main_v64 : IVec S512x512x1 1 := broadcastInDim S512x512x1 ![0, 1] bcast_S512x512_S512x512x1_0_1 main_v49
  let main_v65 : IVec S512x1x512 1 := broadcastInDim S512x1x512 ![0, 2] bcast_S512x512_S512x1x512_0_2 main_v51
  let main_v66 : IVec S512x512x512 1 := broadcastInDim S512x512x512 ![0, 1, 2] bcast_S512x512x1_S512x512x512_0_1_2 main_v64
  let main_v67 : IVec S512x512x512 1 := broadcastInDim S512x512x512 ![0, 1, 2] bcast_S512x1x512_S512x512x512_0_1_2 main_v65
  let main_v68 : IVec S512x512x512 1 := andi main_v66 main_v67
  let main_v69 : IVec S512x512x512 1 := noti main_v68
  let main_v70 : FVec F S512x512x1 .f32 := broadcastInDim S512x512x1 ![0, 1] bcast_S512x512_S512x512x1_0_1 main_arg8
  let main_v71 : FVec F S512x1x512 .f32 := broadcastInDim S512x1x512 ![0, 2] bcast_S512x512_S512x1x512_0_2 main_arg8
  let main_v72 : FVec F S512x512x512 .f32 := broadcastInDim S512x512x512 ![0, 1, 2] bcast_S512x512x1_S512x512x512_0_1_2 main_v70
  let main_v73 : FVec F S512x512x512 .f32 := broadcastInDim S512x512x512 ![0, 1, 2] bcast_S512x1x512_S512x512x512_0_1_2 main_v71
  let main_v74 : IVec S512x512x512 1 := cmpf .ogt main_v72 main_v73
  let main_v75 : IVec S512x512x512 1 := ori main_v69 main_v74
  let main_c_13 : IVec S_ 1 := constantI S_ 1 1#1
  let main_v76 : IVec S_ 1 := (fun x v => Host.reduce IntOp.andi x v reducesTo_S512x512x512_S_d0_1_2 h_S_) main_v75 main_c_13
  let main_v77 : IVec S_ 1 := andi main_v63 main_v76
  let main_v78 : FVec F S512x1 .f32 := fn_norm (F := F) main_v12
  let main_v79 : FVec F S512x512 .f32 := broadcastInDim S512x512 ![0, 1] bcast_S512x1_S512x512_0_1 main_v78
  fn_part4 (F := F) main_v12 main_v23 main_v28 main_v77 main_v79

def fn_part2 {F : FTy → Type} [FloatOps F] (main_arg8 : FVec F S512x512 .f32) (main_v12 : FVec F S512x512 .f32) (main_v18 : IVec S_ 1) (main_v23 : IVec S512 1) (main_v28 : IVec S512x512 1) (main_v35 : IVec S16x512x1 1) (main_v37 : IVec S1x512x512 16) (main_v39 : IVec S16x512x1 16) : IVec S_ 1 :=
  let main_v40 : IVec S16x512x512 16 := broadcastInDim S16x512x512 ![0, 1, 2] bcast_S1x512x512_S16x512x512_0_1_2 main_v37
  let main_v41 : IVec S16x512x512 16 := broadcastInDim S16x512x512 ![0, 1, 2] bcast_S16x512x1_S16x512x512_0_1_2 main_v39
  let main_v42 : IVec S16x512x512 1 := cmpi .sge main_v40 main_v41
  let main_v43 : IVec S16x512x512 1 := broadcastInDim S16x512x512 ![0, 1, 2] bcast_S16x512x1_S16x512x512_0_1_2 main_v35
  let main_v44 : IVec S16x512x512 1 := andi main_v43 main_v42
  let main_v45 : FVec F S16x512x512 .f32 := uitofp .f32 main_v44
  let main_cst_6 : FVec F S_ .f32 := constant S_ .f32 0x00000000#32
  let main_v46 : FVec F S512x512 .f32 := (fun x v => Host.reduceAdd x v reducesTo_S16x512x512_S512x512_d0 h_S_) main_v45 main_cst_6
  let main_cst_7 : FVec F S_ .f32 := constant S_ .f32 0x00000000#32
  let main_v47 : FVec F S512x512 .f32 := broadcastInDim S512x512 ![] bcast_S_S512x512 main_cst_7
  let main_v48 : IVec S512x512 1 := cmpf .ogt main_v46 main_v47
  let main_v49 : IVec S512x512 1 := andi main_v28 main_v48
  let main_v50 : IVec S512x512 1 := noti main_v49
  let main_v51 : IVec S512x512 1 := andi main_v28 main_v50
  let main_v52 : IVec S512 1 := noti main_v23
  let main_v53 : FVec F S512x512 .f32 := uitofp .f32 main_v49
  let main_cst_8 : FVec F S_ .f32 := constant S_ .f32 0x00000000#32
  let main_v54 : FVec F S512 .f32 := (fun x v => Host.reduceAdd x v reducesTo_S512x512_S512_d1 h_S_) main_v53 main_cst_8
  let main_cst_9 : FVec F S_ .f32 := constant S_ .f32 0x42000000#32
  let main_v55 : FVec F S512 .f32 := broadcastInDim S512 ![] bcast_S_S512 main_cst_9
  let main_v56 : IVec S512 1 := cmpf .oeq main_v54 main_v55
  let main_v57 : IVec S512 1 := ori main_v52 main_v56
  let main_c_10 : IVec S_ 1 := constantI S_ 1 1#1
  let main_v58 : IVec S_ 1 := (fun x v => Host.reduce IntOp.andi x v reducesTo_S512_S_d0 h_S_) main_v57 main_c_10
  fn_part3 (F := F) main_arg8 main_v12 main_v18 main_v23 main_v28 main_v49 main_v51 main_v58

def fn_part1 {F : FTy → Type} [FloatOps F] (main_arg1 : IVec S512 32) (main_arg7 : IVec S512 32) (main_arg8 : FVec F S512x512 .f32) (main_arg9 : IVec S512x512 16) (main_arg10 : IVec S16x512 32) (main_v7 : IVec S_ 1) (main_v12 : FVec F S512x512 .f32) (main_v17 : IVec S_ 1) : IVec S_ 1 :=
  let main_v18 : IVec S_ 1 := andi main_v7 main_v17
  let main_c_4 : IVec S_ 32 := constantI S_ 32 0#32
  let main_v19 : IVec S512 32 := broadcastInDim S512 ![] bcast_S_S512 main_c_4
  let main_v20 : IVec S512 1 := cmpi .sge main_arg1 main_v19
  let main_c_5 : IVec S_ 32 := constantI S_ 32 16#32
  let main_v21 : IVec S512 32 := broadcastInDim S512 ![] bcast_S_S512 main_c_5
  let main_v22 : IVec S512 1 := cmpi .slt main_arg1 main_v21
  let main_v23 : IVec S512 1 := andi main_v20 main_v22
  let main_v24 : IVec S512x1 32 := broadcastInDim S512x1 ![0] bcast_S512_S512x1_0 main_arg1
  let main_v25 : IVec S1x512 32 := broadcastInDim S1x512 ![1] bcast_S512_S1x512_1 main_arg7
  let main_v26 : IVec S512x512 32 := broadcastInDim S512x512 ![0, 1] bcast_S512x1_S512x512_0_1 main_v24
  let main_v27 : IVec S512x512 32 := broadcastInDim S512x512 ![0, 1] bcast_S1x512_S512x512_0_1 main_v25
  let main_v28 : IVec S512x512 1 := cmpi .ne main_v26 main_v27
  let main_v29 : IVec S1x512 32 := broadcastInDim S1x512 ![1] bcast_S512_S1x512_1 main_arg1
  let main_v30 : IVec S16 32 := iotaInDim S16 32 0
  let main_v31 : IVec S16x1 32 := broadcastInDim S16x1 ![0] bcast_S16_S16x1_0 main_v30
  let main_v32 : IVec S16x512 32 := broadcastInDim S16x512 ![0, 1] bcast_S1x512_S16x512_0_1 main_v29
  let main_v33 : IVec S16x512 32 := broadcastInDim S16x512 ![0, 1] bcast_S16x1_S16x512_0_1 main_v31
  let main_v34 : IVec S16x512 1 := cmpi .eq main_v32 main_v33
  let main_v35 : IVec S16x512x1 1 := broadcastInDim S16x512x1 ![0, 1] bcast_S16x512_S16x512x1_0_1 main_v34
  let main_v36 : IVec S512x512 16 := (transpose S512x512 [1, 0] · transposes_S512x512_S512x512_1_0) main_arg9
  let main_v37 : IVec S1x512x512 16 := broadcastInDim S1x512x512 ![1, 2] bcast_S512x512_S1x512x512_1_2 main_v36
  let main_v38 : IVec S16x512 16 := (trunci 16 · natLt_16_32) main_arg10
  let main_v39 : IVec S16x512x1 16 := broadcastInDim S16x512x1 ![0, 1] bcast_S16x512_S16x512x1_0_1 main_v38
  fn_part2 (F := F) main_arg8 main_v12 main_v18 main_v23 main_v28 main_v35 main_v37 main_v39

def fn {F : FTy → Type} [FloatOps F] (main_arg0 : FVec F S512x512 .f32) (main_arg1 : IVec S512 32) (main_arg2 : IVec S512 32) (main_arg3 : FVec F S512x512 .f32) (main_arg4 : FVec F S512 .f32) (main_arg5 : FVec F S512x512 .f32) (main_arg6 : FVec F S512 .f32) (main_arg7 : IVec S512 32) (main_arg8 : FVec F S512x512 .f32) (main_arg9 : IVec S512x512 16) (main_arg10 : IVec S16x512 32) : IVec S_ 1 :=
  let main_v0 : IVec S512 32 := iotaInDim S512 32 0
  let main_v1 : IVec S512 1 := cmpi .eq main_arg2 main_v0
  let main_c : IVec S_ 1 := constantI S_ 1 1#1
  let main_v2 : IVec S_ 1 := (fun x v => Host.reduce IntOp.andi x v reducesTo_S512_S_d0 h_S_) main_v1 main_c
  let main_c_0 : IVec S_ 32 := constantI S_ 32 15#32
  let main_v3 : IVec S512 32 := broadcastInDim S512 ![] bcast_S_S512 main_c_0
  let main_v4 : IVec S512 32 := andi main_v0 main_v3
  let main_v5 : IVec S512 1 := cmpi .eq main_arg7 main_v4
  let main_c_1 : IVec S_ 1 := constantI S_ 1 1#1
  let main_v6 : IVec S_ 1 := (fun x v => Host.reduce IntOp.andi x v reducesTo_S512_S_d0 h_S_) main_v5 main_c_1
  let main_v7 : IVec S_ 1 := andi main_v2 main_v6
  let main_v8 : FVec F S512x512 .f32 := (transpose S512x512 [1, 0] · transposes_S512x512_S512x512_1_0) main_arg3
  let main_v9 : FVec F S512x512 .f32 := (fun l r => Host.dotGeneral dot_S512x512_S512x512_S512x512_1_0_0_1_n_n none l r) main_arg0 main_v8
  let main_v10 : FVec F S1x512 .f32 := broadcastInDim S1x512 ![1] bcast_S512_S1x512_1 main_arg4
  let main_v11 : FVec F S512x512 .f32 := broadcastInDim S512x512 ![0, 1] bcast_S1x512_S512x512_0_1 main_v10
  let main_v12 : FVec F S512x512 .f32 := addf main_v9 main_v11
  let main_v13 : FVec F S512x512 .f32 := mulf main_v12 main_v12
  let main_cst : FVec F S_ .f32 := constant S_ .f32 0x00000000#32
  let main_v14 : FVec F S512 .f32 := (fun x v => Host.reduceAdd x v reducesTo_S512x512_S512_d1 h_S_) main_v13 main_cst
  let main_cst_2 : FVec F S_ .f32 := constant S_ .f32 0x00000000#32
  let main_v15 : FVec F S512 .f32 := broadcastInDim S512 ![] bcast_S_S512 main_cst_2
  let main_v16 : IVec S512 1 := cmpf .ogt main_v14 main_v15
  let main_c_3 : IVec S_ 1 := constantI S_ 1 1#1
  let main_v17 : IVec S_ 1 := (fun x v => Host.reduce IntOp.andi x v reducesTo_S512_S_d0 h_S_) main_v16 main_c_3
  fn_part1 (F := F) main_arg1 main_arg7 main_arg8 main_arg9 main_arg10 main_v7 main_v12 main_v17
-- ==== Kernel.lean ====
abbrev S512x512 : Shape := ⟨2, ![512, 512]⟩
abbrev S512 : Shape := ⟨1, ![512]⟩
abbrev S16x512 : Shape := ⟨2, ![16, 512]⟩
abbrev S1x512 : Shape := ⟨2, ![1, 512]⟩
abbrev S1x1 : Shape := ⟨2, ![1, 1]⟩
abbrev S512x1 : Shape := ⟨2, ![512, 1]⟩
abbrev S1x16x512 : Shape := ⟨3, ![1, 16, 512]⟩
abbrev S32x16x512 : Shape := ⟨3, ![32, 16, 512]⟩
abbrev S32x512 : Shape := ⟨2, ![32, 512]⟩
abbrev S1 : Shape := ⟨1, ![1]⟩

abbrev nBuf : Space → Nat
  | .hbm => 14
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .i32⟩
  | .hbm, ⟨8, _⟩ => ⟨S512x512, .f32⟩
  | .hbm, ⟨9, _⟩ => ⟨S512x512, .i16⟩
  | .hbm, ⟨10, _⟩ => ⟨S16x512, .i32⟩
  | .hbm, ⟨11, _⟩ => ⟨S1x512, .f32⟩
  | .hbm, ⟨12, _⟩ => ⟨S1x512, .i32⟩
  | .hbm, ⟨13, _⟩ => ⟨S1x1, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .i32⟩
  | .local _ .vmem, ⟨4, _⟩ => ⟨S512x512, .i16⟩
  | .local _ .vmem, ⟨5, _⟩ => ⟨S16x512, .i32⟩
  | .local _ .vmem, ⟨6, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "inv_T" => some ((16777216 / 13421773 : ℝ) : EReal)
  | "two_over_T" => some ((33554432 / 13421773 : ℝ) : EReal)
  | _ => none
-- ==== ReferenceIdeal.lean ====
abbrev S512x512 : Shape := ⟨2, ![512, 512]⟩
abbrev S512 : Shape := ⟨1, ![512]⟩
abbrev S16x512 : Shape := ⟨2, ![16, 512]⟩
abbrev S1x512 : Shape := ⟨2, ![1, 512]⟩
abbrev S_ : Shape := ⟨0, ![]⟩
abbrev S512x1 : Shape := ⟨2, ![512, 1]⟩
abbrev S512x8 : Shape := ⟨2, ![512, 8]⟩
abbrev S512x32 : Shape := ⟨2, ![512, 32]⟩
abbrev S512x32x1 : Shape := ⟨3, ![512, 32, 1]⟩
abbrev S1 : Shape := ⟨1, ![1]⟩
abbrev S1x1x1 : Shape := ⟨3, ![1, 1, 1]⟩
abbrev S512x8x1 : Shape := ⟨3, ![512, 8, 1]⟩
abbrev S512x1x32 : Shape := ⟨3, ![512, 1, 32]⟩
abbrev S512x8x32 : Shape := ⟨3, ![512, 8, 32]⟩
abbrev S512x8x33 : Shape := ⟨3, ![512, 8, 33]⟩
abbrev S512x16x33 : Shape := ⟨3, ![512, 16, 33]⟩
abbrev S512x16 : Shape := ⟨2, ![512, 16]⟩
abbrev S512x16x1 : Shape := ⟨3, ![512, 16, 1]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S512x512, .f32⟩
  | 1 => ⟨S512, .i32⟩
  | 2 => ⟨S512, .i32⟩
  | 3 => ⟨S512x512, .f32⟩
  | 4 => ⟨S512, .f32⟩
  | 5 => ⟨S512x512, .f32⟩
  | 6 => ⟨S512, .f32⟩
  | 7 => ⟨S512, .i32⟩
  | 8 => ⟨S512x512, .f32⟩
  | 9 => ⟨S512x512, .i16⟩
  | 10 => ⟨S16x512, .i32⟩
  | 11 => ⟨S512x512, .f32⟩
  | 12 => ⟨S512x512, .f32⟩
  | 13 => ⟨S1x512, .f32⟩
  | 14 => ⟨S512x512, .f32⟩
  | 15 => ⟨S512x512, .f32⟩
  | 16 => ⟨S512x512, .f32⟩
  | 17 => ⟨S_, .f32⟩
  | 18 => ⟨S512, .f32⟩
  | 19 => ⟨S512x1, .f32⟩
  | 20 => ⟨S512x1, .f32⟩
  | 21 => ⟨S512x512, .f32⟩
  | 22 => ⟨S512x512, .f32⟩
  | 23 => ⟨S_, .i32⟩
  | 24 => ⟨S512, .i32⟩
  | 25 => ⟨S512, .i1⟩
  | 26 => ⟨S_, .i32⟩
  | 27 => ⟨S512, .i32⟩
  | 28 => ⟨S512, .i32⟩
  | 29 => ⟨S512, .i32⟩
  | 30 => ⟨S512x1, .i32⟩
  | 31 => ⟨S512x512, .f32⟩
  | 32 => ⟨S_, .i32⟩
  | 33 => ⟨S512, .i32⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S_, .f32⟩
  | 41 => ⟨S512, .f32⟩
  | 42 => ⟨S512, .f32⟩
  | 43 => ⟨S512x512, .f32⟩
  | 44 => ⟨S512x1, .i32⟩
  | 45 => ⟨S1x512, .i32⟩
  | 46 => ⟨S512x512, .i32⟩
  | 47 => ⟨S512x512, .i32⟩
  | 48 => ⟨S512x512, .i1⟩
  | 49 => ⟨S512x512, .f32⟩
  | 50 => ⟨S1x512, .f32⟩
  | 51 => ⟨S512x512, .f32⟩
  | 52 => ⟨S512x512, .f32⟩
  | 53 => ⟨S512x512, .f32⟩
  | 54 => ⟨S_, .f32⟩
  | 55 => ⟨S512x512, .f32⟩
  | 56 => ⟨S512x512, .f32⟩
  | 57 => ⟨S1x512, .f32⟩
  | 58 => ⟨S512x512, .f32⟩
  | 59 => ⟨S512x512, .f32⟩
  | 60 => ⟨S_, .f32⟩
  | 61 => ⟨S512, .f32⟩
  | 62 => ⟨S_, .f32⟩
  | 63 => ⟨S512, .f32⟩
  | 64 => ⟨S512, .i1⟩
  | 65 => ⟨S_, .f32⟩
  | 66 => ⟨S512, .f32⟩
  | 67 => ⟨S_, .f32⟩
  | 68 => ⟨S512, .f32⟩
  | 69 => ⟨S512, .i1⟩
  | 70 => ⟨S512, .i1⟩
  | 71 => ⟨S_, .f32⟩
  | 72 => ⟨S512x512, .f32⟩
  | 73 => ⟨S512x512, .i1⟩
  | 74 => ⟨S_, .f32⟩
  | 75 => ⟨S_, .f32⟩
  | 76 => ⟨S512x512, .f32⟩
  | 77 => ⟨S512x512, .f32⟩
  | 78 => ⟨S512x512, .f32⟩
  | 79 => ⟨S512x8, .f32⟩
  | 80 => ⟨S_, .f32⟩
  | 81 => ⟨S512x512, .f32⟩
  | 82 => ⟨S512x512, .i1⟩
  | 83 => ⟨S_, .f32⟩
  | 84 => ⟨S_, .f32⟩
  | 85 => ⟨S512x512, .f32⟩
  | 86 => ⟨S512x512, .f32⟩
  | 87 => ⟨S512x32, .f32⟩
  | 88 => ⟨S512x32, .i32⟩
  | 89 => ⟨S_, .f32⟩
  | 90 => ⟨S512x512, .f32⟩
  | 91 => ⟨S512x512, .i1⟩
  | 92 => ⟨S_, .f32⟩
  | 93 => ⟨S_, .f32⟩
  | 94 => ⟨S512x512, .f32⟩
  | 95 => ⟨S512x512, .f32⟩
  | 96 => ⟨S512x32, .f32⟩
  | 97 => ⟨S512x32, .i32⟩
  | 98 => ⟨S_, .i32⟩
  | 99 => ⟨S512x32, .i32⟩
  | 100 => ⟨S512x32, .i1⟩
  | 101 => ⟨S_, .i32⟩
  | 102 => ⟨S512x32, .i32⟩
  | 103 => ⟨S512x32, .i32⟩
  | 104 => ⟨S512x32, .i32⟩
  | 105 => ⟨S512x32x1, .i32⟩
  | 106 => ⟨S1, .i32⟩
  | 107 => ⟨S_, .i32⟩
  | 108 => ⟨S512x32x1, .i32⟩
  | 109 => ⟨S512x32x1, .i1⟩
  | 110 => ⟨S1x1x1, .i32⟩
  | 111 => ⟨S512x32x1, .i32⟩
  | 112 => ⟨S512x32x1, .i1⟩
  | 113 => ⟨S512x32x1, .i1⟩
  | 114 => ⟨S_, .i1⟩
  | 115 => ⟨S512x32, .i1⟩
  | 116 => ⟨S512x32, .f32⟩
  | 117 => ⟨S_, .f32⟩
  | 118 => ⟨S512x32, .f32⟩
  | 119 => ⟨S512x32, .f32⟩
  | 120 => ⟨S512x8x1, .f32⟩
  | 121 => ⟨S512x1x32, .f32⟩
  | 122 => ⟨S512x8x32, .f32⟩
  | 123 => ⟨S512x1x32, .f32⟩
  | 124 => ⟨S512x8x32, .f32⟩
  | 125 => ⟨S512x8x33, .f32⟩
  | 126 => ⟨S512x8x33, .f32⟩
  | 127 => ⟨S512x16x33, .f32⟩
  | _ => ⟨S512x512, .f32⟩

abbrev hbmTy0_1 (i : Nat) : BufTy := match i % 128 with
  | 0 => ⟨S_, .f32⟩
  | 1 => ⟨S512x16x33, .f32⟩
  | 2 => ⟨S512x16x33, .f32⟩
  | 3 => ⟨S512x16x33, .f32⟩
  | 4 => ⟨S_, .f32⟩
  | 5 => ⟨S512x16, .f32⟩
  | 6 => ⟨S512x16, .f32⟩
  | 7 => ⟨S512x16x1, .f32⟩
  | 8 => ⟨S512x16, .f32⟩
  | 9 => ⟨S512x16, .f32⟩
  | 10 => ⟨S512, .f32⟩
  | 11 => ⟨S_, .f32⟩
  | 12 => ⟨S_, .f32⟩
  | 13 => ⟨S512x1, .f32⟩
  | 14 => ⟨S512x16, .f32⟩
  | 15 => ⟨S512x16, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .i1⟩
  | 27 => ⟨S_, .f32⟩
  | 28 => ⟨S_, .f32⟩
  | 29 => ⟨S_, .f32⟩
  | 30 => ⟨S1x1, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_call1_v0 : Ref sig .tc := ⟨.hbm, 75, rfl⟩
abbrev main_call1_v1 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_call3_v0 : Ref sig .tc := ⟨.hbm, 84, rfl⟩
abbrev main_call3_v1 : Ref sig .tc := ⟨.hbm, 85, rfl⟩
abbrev main_v53 : Ref sig .tc := ⟨.hbm, 86, rfl⟩
abbrev main_values : Ref sig .tc := ⟨.hbm, 87, rfl⟩
abbrev main_indices : Ref sig .tc := ⟨.hbm, 88, rfl⟩
abbrev main_cst_12 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_call4_v0 : Ref sig .tc := ⟨.hbm, 93, rfl⟩
abbrev main_call4_v1 : Ref sig .tc := ⟨.hbm, 94, rfl⟩
abbrev main_v56 : Ref sig .tc := ⟨.hbm, 95, rfl⟩
abbrev main_values_14 : Ref sig .tc := ⟨.hbm, 96, rfl⟩
abbrev main_indices_15 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_cst : Ref sig .tc := ⟨.hbm, 117, rfl⟩
abbrev main_call5_v14 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_16 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_17 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_18 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_cst_19 : Ref sig .tc := ⟨.hbm, 144, rfl⟩
abbrev main_v79 : Ref sig .tc := ⟨.hbm, 145, rfl⟩
abbrev main_cst_20 : Ref sig .tc := ⟨.hbm, 146, rfl⟩
abbrev main_v80 : Ref sig .tc := ⟨.hbm, 147, rfl⟩
abbrev main_cst_21 : Ref sig .tc := ⟨.hbm, 148, rfl⟩
abbrev main_v81 : Ref sig .tc := ⟨.hbm, 149, rfl⟩
abbrev main_cst_22 : Ref sig .tc := ⟨.hbm, 150, rfl⟩
abbrev main_v82 : Ref sig .tc := ⟨.hbm, 151, rfl⟩
abbrev main_v83 : Ref sig .tc := ⟨.hbm, 152, rfl⟩
abbrev main_cst_23 : Ref sig .tc := ⟨.hbm, 153, rfl⟩
abbrev main_v84 : Ref sig .tc := ⟨.hbm, 154, rfl⟩
abbrev main_cst_24 : Ref sig .tc := ⟨.hbm, 155, rfl⟩
abbrev main_call6_v0 : Ref sig .tc := ⟨.hbm, 156, rfl⟩
abbrev main_v85 : Ref sig .tc := ⟨.hbm, 157, rfl⟩
abbrev main_v86 : Ref sig .tc := ⟨.hbm, 158, rfl⟩

abbrev nD : Nat := 1
abbrev τ : Topo := Topo.v7x

variable {F : FTy → Type} [FloatOps F]
-- ==== Proof.Chain.lean ====
/- The kernel body as a short recursion: the bisection step taken fifteen times, the extraction round taken eight
   times, and a closing quotient. Each printed value of the body is shown to be the corresponding stage. -/
module

public import proofs.«01_k».proof.Proof.Gen.KernelIdeal.Value
public import Idealize.ShloMosaic.Lib.Pipeline.Value

@[expose] public section

noncomputable section

namespace Cert.Chain

open Cert.KernelIdeal Cert.KernelIdeal.Gen Idealize.ShloMosaic Idealize.SL.Sem

variable {F : FTy → Type} [FloatOps F] [Named F]

/-- The midpoint of the two ends of a bracket, lane by lane. -/
def midV (lo hi : IVec S1x512 32) : IVec S1x512 32 :=
  shrsi (addi lo hi) (broadcast S1x512 1#32)

/-- How many bucket numbers of each lane are at least the midpoint. -/
def cntV (q : IVec S512x512 16) (mid : IVec S1x512 32) : FVec F S1x512 .f32 :=
  sitofp .f32 (shapeCast S1x512 (multiReductionI .add [0] S512 (extsi 32 (extui 16 (cmpi .sge q
    (broadcastTo S512x512 (trunci 16 mid natLt_16_32) broadcasts_S1x512_S512x512)) natLt_1_16) natLt_16_32) 0#32
    reduces_S512x512_S512_2 rfl) shapeCasts_S512_S1x512)

/-- Whether a count is at least thirty-two. -/
def predV (c : FVec F S1x512 .f32) : IVec S1x512 1 :=
  cmpf .oge c (broadcast S1x512 (Scalar.ofBits .f32 0x42000000#32))

/-- The bracket of the bisection with the counts at its two ends. -/
structure Bis (F : FTy → Type) where
  /-- The lower end. -/
  lo : IVec S1x512 32
  /-- The upper end. -/
  hi : IVec S1x512 32
  /-- The count at the lower end. -/
  clo : FVec F S1x512 .f32
  /-- The count at the upper end. -/
  chi : FVec F S1x512 .f32

/-- The midpoint of a bracket. -/
def Bis.mid (b : Bis F) : IVec S1x512 32 := midV b.lo b.hi

/-- The count at a bracket's midpoint. -/
def Bis.cnt (q : IVec S512x512 16) (b : Bis F) : FVec F S1x512 .f32 := cntV q b.mid

/-- Whether the count at the midpoint reaches thirty-two. -/
def Bis.pred (q : IVec S512x512 16) (b : Bis F) : IVec S1x512 1 := predV (b.cnt q)

/-- One halving of the bracket. -/
def Bis.step (q : IVec S512x512 16) (b : Bis F) : Bis F :=
  ⟨select (b.pred q) b.mid b.lo, select (b.pred q) b.hi b.mid,
   select (b.pred q) (b.cnt q) b.clo, select (b.pred q) b.chi (b.cnt q)⟩

/-- Three halvings. -/
def Bis.step3 (q : IVec S512x512 16) (b : Bis F) : Bis F := ((b.step q).step q).step q

/-- The bracket the bisection starts from. -/
def Bis.init : Bis F := ⟨k0_pay10, k0_pay11, k0_pay12, k0_pay13⟩

section steps
variable (q : IVec S512x512 16) (b : Bis F)

/-- The lower bound after three unrolled steps. -/
theorem lo1 : k0_pay27 (F := F) q b.lo b.hi b.mid (b.pred q) = (b.step3 q).lo := rfl
/-- The upper bound after three unrolled steps. -/
theorem hi1 : k0_pay29 (F := F) q b.lo b.hi b.mid (b.pred q) = (b.step3 q).hi := rfl
/-- The next midpoint after three unrolled steps. -/
theorem mid1 : k0_pay31 (F := F) q b.lo b.hi b.mid (b.pred q) = (b.step3 q).mid := rfl
/-- The count at the midpoint after three unrolled steps. -/
theorem cnt1 : k0_pay32 (F := F) q b.lo b.hi b.mid (b.pred q) = (b.step3 q).cnt q := rfl
/-- The comparison of that count after three unrolled steps. -/
theorem pred1 : k0_pay33 (F := F) q b.lo b.hi b.mid (b.pred q) = (b.step3 q).pred q := rfl
/-- The count at the lower bound after three unrolled steps. -/
theorem clo1 : k0_pay28 q b.lo b.hi b.clo b.mid (b.cnt q) (b.pred q) = (b.step3 q).clo := rfl
/-- The count at the upper bound after three unrolled steps. -/
theorem chi1 : k0_pay30 q b.lo b.hi b.chi b.mid (b.cnt q) (b.pred q) = (b.step3 q).chi := rfl
/-- The lower bound after three unrolled steps. -/
theorem lo2 : k0_pay44 (F := F) q b.lo b.hi b.mid (b.pred q) = (b.step3 q).lo := rfl
/-- The upper bound after three unrolled steps. -/
theorem hi2 : k0_pay46 (F := F) q b.lo b.hi b.mid (b.pred q) = (b.step3 q).hi := rfl
/-- The next midpoint after three unrolled steps. -/
theorem mid2 : k0_pay48 (F := F) q b.lo b.hi b.mid (b.pred q) = (b.step3 q).mid := rfl
/-- The count at the midpoint after three unrolled steps. -/
theorem cnt2 : k0_pay49 (F := F) q b.lo b.hi b.mid (b.pred q) = (b.step3 q).cnt q := rfl
/-- The comparison of that count after three unrolled steps. -/
theorem pred2 : k0_pay50 (F := F) q b.lo b.hi b.mid (b.pred q) = (b.step3 q).pred q := rfl
/-- The count at the lower bound after three unrolled steps. -/
theorem clo2 : k0_pay45 q b.lo b.clo b.hi b.mid (b.cnt q) (b.pred q) = (b.step3 q).clo := rfl
/-- The count at the upper bound after three unrolled steps. -/
theorem chi2 : k0_pay47 q b.lo b.hi b.chi b.mid (b.cnt q) (b.pred q) = (b.step3 q).chi := rfl
/-- The lower bound after three unrolled steps. -/
theorem lo3 : k0_pay61 (F := F) q b.lo b.hi b.mid (b.pred q) = (b.step3 q).lo := rfl
/-- The upper bound after three unrolled steps. -/
theorem hi3 : k0_pay63 (F := F) q b.lo b.hi b.mid (b.pred q) = (b.step3 q).hi := rfl
/-- The next midpoint after three unrolled steps. -/
theorem mid3 : k0_pay65 (F := F) q b.lo b.hi b.mid (b.pred q) = (b.step3 q).mid := rfl
/-- The count at the midpoint after three unrolled steps. -/
theorem cnt3 : k0_pay66 (F := F) q b.lo b.hi b.mid (b.pred q) = (b.step3 q).cnt q := rfl
/-- The comparison of that count after three unrolled steps. -/
theorem pred3 : k0_pay67 (F := F) q b.lo b.hi b.mid (b.pred q) = (b.step3 q).pred q := rfl
/-- The count at the lower bound after three unrolled steps. -/
theorem clo3 : k0_pay62 q b.lo b.clo b.hi b.mid (b.cnt q) (b.pred q) = (b.step3 q).clo := rfl
/-- The count at the upper bound after three unrolled steps. -/
theorem chi3 : k0_pay64 q b.lo b.hi b.chi b.mid (b.cnt q) (b.pred q) = (b.step3 q).chi := rfl
/-- The lower bound after three unrolled steps. -/
theorem lo4 : k0_pay78 (F := F) q b.lo b.hi b.mid (b.pred q) = (b.step3 q).lo := rfl
/-- The upper bound after three unrolled steps. -/
theorem hi4 : k0_pay80 (F := F) q b.lo b.hi b.mid (b.pred q) = (b.step3 q).hi := rfl
/-- The next midpoint after three unrolled steps. -/
theorem mid4 : k0_pay82 (F := F) q b.lo b.hi b.mid (b.pred q) = (b.step3 q).mid := rfl
/-- The count at the midpoint after three unrolled steps. -/
theorem cnt4 : k0_pay83 (F := F) q b.lo b.hi b.mid (b.pred q) = (b.step3 q).cnt q := rfl
/-- The comparison of that count after three unrolled steps. -/
theorem pred4 : k0_pay84 (F := F) q b.lo b.hi b.mid (b.pred q) = (b.step3 q).pred q := rfl
/-- The count at the lower bound after three unrolled steps. -/
theorem clo4 : k0_pay79 q b.lo b.clo b.hi b.mid (b.cnt q) (b.pred q) = (b.step3 q).clo := rfl
/-- The count at the upper bound after three unrolled steps. -/
theorem chi4 : k0_pay81 q b.lo b.hi b.chi b.mid (b.cnt q) (b.pred q) = (b.step3 q).chi := rfl
/-- The count at the lower bound after three unrolled steps. -/
theorem clo5 : k0_pay94 q b.lo b.clo b.hi b.mid (b.cnt q) (b.pred q) = (b.step3 q).clo := rfl
/-- The count at the upper bound after three unrolled steps. -/
theorem chi5 : k0_pay95 q b.lo b.hi b.chi b.mid (b.cnt q) (b.pred q) = (b.step3 q).chi := rfl
/-- The last part's lower bound, narrowed to sixteen bits, is that of three further steps. -/
theorem lo5 : k0_pay96 (F := F) q b.lo b.hi b.mid (b.pred q) = trunci 16 (b.step3 q).lo natLt_16_32 := rfl

end steps

/-- The sum of the exponentials whose bucket number passes a comparison with the found bucket. -/
def sumV (cmp : CmpIPredicate) (ex : FVec F S512x512 .f32) (q : IVec S512x512 16) (lo : IVec S1x512 32) : FVec F S1x512 .f32 :=
  shapeCast S1x512 (multiReduction .add [0] S512 (select (cmpi cmp q (broadcastTo S512x512
    (trunci 16 lo natLt_16_32) broadcasts_S1x512_S512x512)) ex (broadcast S512x512 (Scalar.ofBits .f32 0x00000000#32)))
    0x00000000#32 reduces_S512x512_S512_2 (.inl rfl) rfl) shapeCasts_S512_S1x512

/-- The values, the places left and the running sum of the extraction. -/
structure Ext (F : FTy → Type) where
  /-- The values not yet taken (those taken replaced by a large number). -/
  vals : FVec F S32x512 .f32
  /-- The places left. -/
  slots : FVec F S1x512 .f32
  /-- The running sum. -/
  acc : FVec F S1x512 .f32

/-- The least value of each lane. -/
def minV (v : FVec F S32x512 .f32) : FVec F S1x512 .f32 :=
  shapeCast S1x512 (multiReduction .minimumf [0] S512 v 0x7F800000#32 reduces_S32x512_S512 (.inl rfl) rfl) shapeCasts_S512_S1x512

/-- Where a value is the lane's least. -/
def eqV (v : FVec F S32x512 .f32) : IVec S32x512 1 :=
  cmpf .oeq v (broadcastTo S32x512 (minV v) broadcasts_S1x512_S32x512)

/-- How often the least value occurs. -/
def mulV (v : FVec F S32x512 .f32) : FVec F S1x512 .f32 :=
  shapeCast S1x512 (multiReduction .add [0] S512 (sitofp .f32 (extui 32 (eqV v) natLt_1_32)) 0x00000000#32
    reduces_S32x512_S512 (.inl rfl) rfl) shapeCasts_S512_S1x512

/-- The exponential of the scaled value, the value capped at ten. -/
def expV (x : FVec F S1x512 .f32) : FVec F S1x512 .f32 :=
  exp (mulf (minimumf x (broadcast S1x512 (Scalar.ofBits .f32 0x41200000#32))) (broadcast S1x512 (Named.named κ "inv_T" 0x3FA00000#32)))

/-- The two cross entropies of one positive value. -/
def costV (nr nh x : FVec F S1x512 .f32) : FVec F S1x512 .f32 :=
  subf (addf (log (addf (expV x) nh)) (log (addf (expV x) nr)))
    (mulf (broadcast S1x512 (Named.named κ "two_over_T" 0x40200000#32)) (minimumf x (broadcast S1x512 (Scalar.ofBits .f32 0x41200000#32))))

/-- One round of the extraction. -/
def Ext.round (nr nh : FVec F S1x512 .f32) (e : Ext F) : Ext F :=
  ⟨select (eqV e.vals) (broadcast S32x512 (Scalar.ofBits .f32 0x461C4000#32)) e.vals,
   subf e.slots (mulV e.vals),
   addf e.acc (mulf (minimumf (mulV e.vals) (maximumf e.slots (broadcast S1x512 (Scalar.ofBits .f32 0x00000000#32)))) (costV nr nh (minV e.vals)))⟩

/-- The state the extraction starts from. -/
def Ext.init (s : FVec F S512x512 .f32) (oh : FVec F S16x512 .f32) : Ext F :=
  ⟨k0_pay100 s oh, k0_pay101 (F := F), broadcast S1x512 (Scalar.ofBits .f32 0x00000000#32)⟩

/-- The closing quotient. -/
def tailV (vm acc : FVec F S1x512 .f32) : FVec F S1x1 .f32 :=
  select (k0_pay152 vm) (divf (shapeCast S1x1 (multiReduction .add [1] S1 (mulf acc vm) 0x00000000#32 reduces_S1x512_S1 (.inl rfl) rfl) shapeCasts_S1_S1x1)
    (maximumf (mulf (k0_pay150 vm) (broadcast S1x1 (Scalar.ofBits .f32 0x41800000#32))) (broadcast S1x1 (Scalar.ofBits .f32 0x3F800000#32))))
    (broadcast S1x1 (Scalar.ofBits .f32 0x00000000#32))

section whole
variable (x0 : Vec F S512x512 .f32) (x1 : Vec F S512x512 .f32) (x2 : Vec F S1x512 .f32) (x3 : Vec F S1x512 .i32) (x4 : Vec F S512x512 .i16) (x5 : Vec F S16x512 .i32)

/-- The bucket numbers. -/
def qs : IVec S512x512 16 := k0_pay9 (k0_pay2 x0 x1 x2) (k0_pay4 x3)

/-- The bracket after all fifteen halvings. -/
def bis : Bis F := ((((Bis.init.step3 (qs x0 x1 x2 x3)).step3 (qs x0 x1 x2 x3)).step3 (qs x0 x1 x2 x3)).step3 (qs x0 x1 x2 x3)).step3 (qs x0 x1 x2 x3)

/-- The exponentials of all similarities. -/
def exs : FVec F S512x512 .f32 := k0_pay7 x0 x1 x2

/-- The random negatives' sum of exponentials. -/
def nrs : FVec F S1x512 .f32 := k0_pay8 (k0_pay3 x3) (k0_pay4 x3) (exs x0 x1 x2) x5 x4

/-- The hard negatives' sum of exponentials. -/
def nhs : FVec F S1x512 .f32 :=
  k0_pay99 (bis x0 x1 x2 x3).clo (bis x0 x1 x2 x3).chi (sumV .sgt (exs x0 x1 x2) (qs x0 x1 x2 x3) (bis x0 x1 x2 x3).lo)
    (sumV .sge (exs x0 x1 x2) (qs x0 x1 x2 x3) (bis x0 x1 x2 x3).lo)

/-- The state after `n` rounds of the extraction. -/
def ext : ℕ → Ext F
  | 0 => Ext.init (k0_pay2 x0 x1 x2) (k0_pay5 x3)
  | n + 1 => (ext n).round (nrs x0 x1 x2 x3 x4 x5) (nhs x0 x1 x2 x3)

/-- The whole body. -/
def kOut : FVec F S1x1 .f32 := tailV (k0_pay6 x3) (ext x0 x1 x2 x3 x4 x5 8).acc

end whole

section rounds
variable (nr nh : FVec F S1x512 .f32) (e : Ext F)

/-- The running sum after the unrolled rounds. -/
theorem acc2 : k0_pay111 nr nh e.acc e.slots e.vals = (e.round nr nh).acc := rfl
/-- The slots left after the unrolled rounds. -/
theorem slots2 : k0_pay112 e.slots e.vals = (e.round nr nh).slots := rfl
/-- The positives left after the unrolled rounds. -/
theorem vals2 : k0_pay113 e.vals = (e.round nr nh).vals := rfl
/-- The least positive that the next round takes. -/
theorem min2 : k0_pay114 e.vals = minV (e.round nr nh).vals := rfl
/-- Where the next round's least positive stands. -/
theorem eq2 : k0_pay115 e.vals = eqV (e.round nr nh).vals := rfl
/-- How often the next round's least positive stands. -/
theorem mul2 : k0_pay116 e.vals = mulV (e.round nr nh).vals := rfl
/-- The running sum after the unrolled rounds. -/
theorem acc4 : k0_pay124 nr nh e.acc e.slots e.vals (minV e.vals) (eqV e.vals) (mulV e.vals)
    (minimumf (mulV e.vals) (maximumf e.slots (broadcast S1x512 (Scalar.ofBits .f32 0x00000000#32)))) (expV (minV e.vals))
    = ((e.round nr nh).round nr nh).acc := rfl
/-- How many of the least positives the next round takes. -/
theorem take2 : k0_pay117 e.slots e.vals = minimumf (mulV (e.round nr nh).vals)
    (maximumf (e.round nr nh).slots (broadcast S1x512 (Scalar.ofBits .f32 0x00000000#32))) := rfl
/-- The exponential of the next round's least positive. -/
theorem exp2 : k0_pay118 e.vals = expV (minV (e.round nr nh).vals) := rfl
/-- The slots left after the unrolled rounds. -/
theorem slots4 : k0_pay125 e.slots e.vals (eqV e.vals) (mulV e.vals) = ((e.round nr nh).round nr nh).slots := rfl
/-- The positives left after the unrolled rounds. -/
theorem vals4 : k0_pay126 e.vals (eqV e.vals) = ((e.round nr nh).round nr nh).vals := rfl
/-- The least positive that the next round takes. -/
theorem min4 : k0_pay127 e.vals (eqV e.vals) = minV ((e.round nr nh).round nr nh).vals := rfl
/-- The running sum after the unrolled rounds. -/
theorem acc5 : k0_pay130 nr nh e.acc e.slots e.vals (minV e.vals) = (e.round nr nh).acc := rfl
/-- The slots left after the unrolled rounds. -/
theorem slots5 : k0_pay131 e.slots e.vals (minV e.vals) = (e.round nr nh).slots := rfl
/-- The positives left after the unrolled rounds. -/
theorem vals5 : k0_pay132 e.vals (minV e.vals) = (e.round nr nh).vals := rfl
/-- The least positive that the next round takes. -/
theorem min5 : k0_pay133 e.vals (minV e.vals) = minV (e.round nr nh).vals := rfl
/-- Where the next round's least positive stands. -/
theorem eq5 : k0_pay134 e.vals (minV e.vals) = eqV (e.round nr nh).vals := rfl
/-- How often the next round's least positive stands. -/
theorem mul5 : k0_pay135 e.vals (minV e.vals) = mulV (e.round nr nh).vals := rfl
/-- How many of the least positives the next round takes. -/
theorem take5 : k0_pay136 e.slots e.vals (minV e.vals) = minimumf (mulV (e.round nr nh).vals)
    (maximumf (e.round nr nh).slots (broadcast S1x512 (Scalar.ofBits .f32 0x00000000#32))) := rfl
/-- The logarithm of the round's sum with the hardest negatives. -/
theorem log5 : k0_pay138 nh e.vals (minV e.vals) = log (addf (expV (minV (e.round nr nh).vals)) nh) := rfl
/-- The round's sum with the random negatives. -/
theorem add5 : k0_pay139 nr e.vals (minV e.vals) = addf (expV (minV (e.round nr nh).vals)) nr := rfl
/-- The running sum after the unrolled rounds. -/
theorem acc7 : k0_pay145 nr nh e.acc e.slots e.vals (minV e.vals) (eqV e.vals) (mulV e.vals)
    (minimumf (mulV e.vals) (maximumf e.slots (broadcast S1x512 (Scalar.ofBits .f32 0x00000000#32))))
    (log (addf (expV (minV e.vals)) nh)) (addf (expV (minV e.vals)) nr) = ((e.round nr nh).round nr nh).acc := rfl
/-- The slots left after the unrolled rounds. -/
theorem slots7 : k0_pay146 e.slots e.vals (eqV e.vals) (mulV e.vals) = ((e.round nr nh).round nr nh).slots := rfl
/-- The least positive that the next round takes. -/
theorem min7 : k0_pay148 e.vals (eqV e.vals) = minV ((e.round nr nh).round nr nh).vals := rfl
/-- Where the next round's least positive stands. -/
theorem eq7 : k0_pay149 e.vals (eqV e.vals) = extui 32 (eqV ((e.round nr nh).round nr nh).vals) natLt_1_32 := rfl
/-- The last round and the mean over the valid lanes. -/
theorem tail8 (vm : FVec F S1x512 .f32) :
    k0_pay1 (k0_pay151 vm nr nh e.acc e.slots (minV e.vals) (extui 32 (eqV e.vals) natLt_1_32)) (k0_pay152 vm) k0_pay153
      = tailV vm (e.round nr nh).acc := rfl

end rounds

/-- Two zero offsets are the zero offset. -/
theorem hz : (![0, 0] : Fin 2 → Nat) = fun _ => 0 := funext fun a => by fin_cases a <;> rfl

/-- A load of the whole array is the array. -/
theorem ld0 {e : EltTy} (x : Vec F S512x512 e) : View.ld x r0_0 = x := View.ld_unit_zero (S := S512x512) hz _ x
/-- A load of the whole array is the array. -/
theorem ld1 {e : EltTy} (x : Vec F S1x512 e) : View.ld x r0_1 = x := View.ld_unit_zero (S := S1x512) hz _ x
/-- A load of the whole array is the array. -/
theorem ld2 {e : EltTy} (x : Vec F S16x512 e) : View.ld x r0_2 = x := View.ld_unit_zero (S := S16x512) hz _ x

section assembled
variable (x0 : Vec F S512x512 .f32) (x1 : Vec F S512x512 .f32) (x2 : Vec F S1x512 .f32) (x3 : Vec F S1x512 .i32) (x4 : Vec F S512x512 .i16) (x5 : Vec F S16x512 .i32)

/-- The body's similarities. -/
theorem p154 : k0_pay154 x0 x1 x2 x3 x4 x5 = k0_pay2 x0 x1 x2 := by
  simp only [ld0, ld1, ld2, k0_pay154, ld0, ld1, ld2]
/-- The body's mask of positives. -/
theorem p155 : k0_pay155 x0 x1 x2 x3 x4 x5 = k0_pay4 x3 := by
  simp only [k0_pay155, ld0, ld1, ld2]
/-- The body's class indicator. -/
theorem p156 : k0_pay156 x0 x1 x2 x3 x4 x5 = k0_pay5 x3 := by
  simp only [k0_pay156, ld0, ld1, ld2]
/-- The body's mask of valid lanes. -/
theorem p157 : k0_pay157 x0 x1 x2 x3 x4 x5 = k0_pay6 x3 := by
  simp only [k0_pay157, ld0, ld1, ld2]
/-- The body's exponentials. -/
theorem p158 : k0_pay158 x0 x1 x2 x3 x4 x5 = exs x0 x1 x2 := by
  simp only [k0_pay158, ld0, ld1, ld2, exs]
/-- The body's sum over the random negatives. -/
theorem p159 : k0_pay159 x0 x1 x2 x3 x4 x5 = nrs x0 x1 x2 x3 x4 x5 := by
  simp only [k0_pay159, ld0, ld1, ld2, nrs, p155, p158]
/-- The body's buckets. -/
theorem p160 : k0_pay160 x0 x1 x2 x3 x4 x5 = qs x0 x1 x2 x3 := by
  simp only [k0_pay160, qs, p154, p155]
/-- A part of the bisection's first state, as the body names it. -/
theorem p161 : k0_pay161 x0 x1 x2 x3 x4 x5 = (Bis.init (F := F)).lo := by
  rfl
/-- A part of the bisection's first state, as the body names it. -/
theorem p162 : k0_pay162 x0 x1 x2 x3 x4 x5 = (Bis.init (F := F)).hi := by
  rfl
/-- A part of the bisection's first state, as the body names it. -/
theorem p163 : k0_pay163 x0 x1 x2 x3 x4 x5 = (Bis.init (F := F)).mid := by
  rfl
/-- A part of the bisection's first state, as the body names it. -/
theorem p164 : k0_pay164 x0 x1 x2 x3 x4 x5 = (Bis.init (F := F)).cnt (qs x0 x1 x2 x3) := by
  rw [k0_pay164, p154, p155]; rfl
/-- A part of the bisection's first state, as the body names it. -/
theorem p165 : k0_pay165 x0 x1 x2 x3 x4 x5 = (Bis.init (F := F)).pred (qs x0 x1 x2 x3) := by
  rw [k0_pay165, p154, p155]; rfl
/-- A part of the bisection's state after some of its steps, as the body names it. -/
theorem p166 : k0_pay166 x0 x1 x2 x3 x4 x5 = ((Bis.init (F := F)).step3 (qs x0 x1 x2 x3)).lo := by
  rw [k0_pay166, p160, p161, p162, p163, p165]; exact lo1 _ _
/-- A part of the bisection's state after some of its steps, as the body names it. -/
theorem p167 : k0_pay167 x0 x1 x2 x3 x4 x5 = ((Bis.init (F := F)).step3 (qs x0 x1 x2 x3)).hi := by
  rw [k0_pay167, p160, p161, p162, p163, p165]; exact hi1 _ _
/-- A part of the bisection's state after some of its steps, as the body names it. -/
theorem p168 : k0_pay168 x0 x1 x2 x3 x4 x5 = ((Bis.init (F := F)).step3 (qs x0 x1 x2 x3)).mid := by
  rw [k0_pay168, p160, p161, p162, p163, p165]; exact mid1 _ _
/-- A part of the bisection's state after some of its steps, as the body names it. -/
theorem p169 : k0_pay169 x0 x1 x2 x3 x4 x5 = ((Bis.init (F := F)).step3 (qs x0 x1 x2 x3)).cnt (qs x0 x1 x2 x3) := by
  rw [k0_pay169, p160, p161, p162, p163, p165]; exact cnt1 _ _
/-- A part of the bisection's state after some of its steps, as the body names it. -/
theorem p170 : k0_pay170 x0 x1 x2 x3 x4 x5 = ((Bis.init (F := F)).step3 (qs x0 x1 x2 x3)).pred (qs x0 x1 x2 x3) := by
  rw [k0_pay170, p160, p161, p162, p163, p165]; exact pred1 _ _
/-- A part of the bisection's state after some of its steps, as the body names it. -/
theorem p171 : k0_pay171 x0 x1 x2 x3 x4 x5 = (((Bis.init (F := F)).step3 (qs x0 x1 x2 x3)).step3 (qs x0 x1 x2 x3)).lo := by
  rw [k0_pay171, p160, p166, p167, p168, p170]; exact lo2 _ _
/-- A part of the bisection's state after some of its steps, as the body names it. -/
theorem p172 : k0_pay172 x0 x1 x2 x3 x4 x5 = (((Bis.init (F := F)).step3 (qs x0 x1 x2 x3)).step3 (qs x0 x1 x2 x3)).hi := by
  rw [k0_pay172, p160, p166, p167, p168, p170]; exact hi2 _ _
/-- A part of the bisection's state after some of its steps, as the body names it. -/
theorem p173 : k0_pay173 x0 x1 x2 x3 x4 x5 = (((Bis.init (F := F)).step3 (qs x0 x1 x2 x3)).step3 (qs x0 x1 x2 x3)).mid := by
  rw [k0_pay173, p160, p166, p167, p168, p170]; exact mid2 _ _
/-- A part of the bisection's state after some of its steps, as the body names it. -/
theorem p174 : k0_pay174 x0 x1 x2 x3 x4 x5 = (((Bis.init (F := F)).step3 (qs x0 x1 x2 x3)).step3 (qs x0 x1 x2 x3)).cnt (qs x0 x1 x2 x3) := by
  rw [k0_pay174, p160, p166, p167, p168, p170]; exact cnt2 _ _
/-- A part of the bisection's state after some of its steps, as the body names it. -/
theorem p175 : k0_pay175 x0 x1 x2 x3 x4 x5 = (((Bis.init (F := F)).step3 (qs x0 x1 x2 x3)).step3 (qs x0 x1 x2 x3)).pred (qs x0 x1 x2 x3) := by
  rw [k0_pay175, p160, p166, p167, p168, p170]; exact pred2 _ _
/-- A part of the bisection's state after some of its steps, as the body names it. -/
theorem p176 : k0_pay176 x0 x1 x2 x3 x4 x5 = ((((Bis.init (F := F)).step3 (qs x0 x1 x2 x3)).step3 (qs x0 x1 x2 x3)).step3 (qs x0 x1 x2 x3)).lo := by
  rw [k0_pay176, p160, p171, p172, p173, p175]; exact lo3 _ _
/-- A part of the bisection's state after some of its steps, as the body names it. -/
theorem p177 : k0_pay177 x0 x1 x2 x3 x4 x5 = ((((Bis.init (F := F)).step3 (qs x0 x1 x2 x3)).step3 (qs x0 x1 x2 x3)).step3 (qs x0 x1 x2 x3)).hi := by
  rw [k0_pay177, p160, p171, p172, p173, p175]; exact hi3 _ _
/-- A part of the bisection's state after some of its steps, as the body names it. -/
theorem p178 : k0_pay178 x0 x1 x2 x3 x4 x5 = ((((Bis.init (F := F)).step3 (qs x0 x1 x2 x3)).step3 (qs x0 x1 x2 x3)).step3 (qs x0 x1 x2 x3)).mid := by
  rw [k0_pay178, p160, p171, p172, p173, p175]; exact mid3 _ _
/-- A part of the bisection's state after some of its steps, as the body names it. -/
theorem p179 : k0_pay179 x0 x1 x2 x3 x4 x5 = ((((Bis.init (F := F)).step3 (qs x0 x1 x2 x3)).step3 (qs x0 x1 x2 x3)).step3 (qs x0 x1 x2 x3)).cnt (qs x0 x1 x2 x3) := by
  rw [k0_pay179, p160, p171, p172, p173, p175]; exact cnt3 _ _
/-- A part of the bisection's state after some of its steps, as the body names it. -/
theorem p180 : k0_pay180 x0 x1 x2 x3 x4 x5 = ((((Bis.init (F := F)).step3 (qs x0 x1 x2 x3)).step3 (qs x0 x1 x2 x3)).step3 (qs x0 x1 x2 x3)).pred (qs x0 x1 x2 x3) := by
  rw [k0_pay180, p160, p171, p172, p173, p175]; exact pred3 _ _
/-- A part of the bisection's state after some of its steps, as the body names it. -/
theorem p181 : k0_pay181 x0 x1 x2 x3 x4 x5 = (((((Bis.init (F := F)).step3 (qs x0 x1 x2 x3)).step3 (qs x0 x1 x2 x3)).step3 (qs x0 x1 x2 x3)).step3 (qs x0 x1 x2 x3)).lo := by
  rw [k0_pay181, p160, p176, p177, p178, p180]; exact lo4 _ _
/-- A part of the bisection's state after some of its steps, as the body names it. -/
theorem p182 : k0_pay182 x0 x1 x2 x3 x4 x5 = (((((Bis.init (F := F)).step3 (qs x0 x1 x2 x3)).step3 (qs x0 x1 x2 x3)).step3 (qs x0 x1 x2 x3)).step3 (qs x0 x1 x2 x3)).hi := by
  rw [k0_pay182, p160, p176, p177, p178, p180]; exact hi4 _ _
/-- A part of the bisection's state after some of its steps, as the body names it. -/
theorem p183 : k0_pay183 x0 x1 x2 x3 x4 x5 = (((((Bis.init (F := F)).step3 (qs x0 x1 x2 x3)).step3 (qs x0 x1 x2 x3)).step3 (qs x0 x1 x2 x3)).step3 (qs x0 x1 x2 x3)).mid := by
  rw [k0_pay183, p160, p176, p177, p178, p180]; exact mid4 _ _
/-- A part of the bisection's state after some of its steps, as the body names it. -/
theorem p184 : k0_pay184 x0 x1 x2 x3 x4 x5 = (((((Bis.init (F := F)).step3 (qs x0 x1 x2 x3)).step3 (qs x0 x1 x2 x3)).step3 (qs x0 x1 x2 x3)).step3 (qs x0 x1 x2 x3)).cnt (qs x0 x1 x2 x3) := by
  rw [k0_pay184, p160, p176, p177, p178, p180]; exact cnt4 _ _
/-- A part of the bisection's state after some of its steps, as the body names it. -/
theorem p185 : k0_pay185 x0 x1 x2 x3 x4 x5 = (((((Bis.init (F := F)).step3 (qs x0 x1 x2 x3)).step3 (qs x0 x1 x2 x3)).step3 (qs x0 x1 x2 x3)).step3 (qs x0 x1 x2 x3)).pred (qs x0 x1 x2 x3) := by
  rw [k0_pay185, p160, p176, p177, p178, p180]; exact pred4 _ _
/-- A part of the bisection's state after some of its steps, as the body names it. -/
theorem p186 : k0_pay186 x0 x1 x2 x3 x4 x5 = ((((((Bis.init (F := F)).step3 (qs x0 x1 x2 x3)).step3 (qs x0 x1 x2 x3)).step3 (qs x0 x1 x2 x3)).step3 (qs x0 x1 x2 x3)).step3 (qs x0 x1 x2 x3)).clo := by
  rw [k0_pay186, p160, p161, p162, p163, p164, p165, p166, p167, p168, p169, p170, p171, p172, p173, p174, p175, p176, p177, p178, p179, p180, p181, p182, p183, p184, p185, show k0_pay12 = (Bis.init (F := F)).clo from rfl, clo1, clo2, clo3, clo4, clo5]
/-- A part of the bisection's state after some of its steps, as the body names it. -/
theorem p187 : k0_pay187 x0 x1 x2 x3 x4 x5 = ((((((Bis.init (F := F)).step3 (qs x0 x1 x2 x3)).step3 (qs x0 x1 x2 x3)).step3 (qs x0 x1 x2 x3)).step3 (qs x0 x1 x2 x3)).step3 (qs x0 x1 x2 x3)).chi := by
  rw [k0_pay187, p160, p161, p162, p163, p164, p165, p166, p167, p168, p169, p170, p171, p172, p173, p174, p175, p176, p177, p178, p179, p180, p181, p182, p183, p184, p185, show k0_pay13 = (Bis.init (F := F)).chi from rfl, chi1, chi2, chi3, chi4, chi5]
/-- The body's sum above the boundary bucket. -/
theorem p188 : k0_pay188 x0 x1 x2 x3 x4 x5 = sumV .sgt (exs x0 x1 x2) (qs x0 x1 x2 x3) (bis (F := F) x0 x1 x2 x3).lo := by
  rw [k0_pay188, p158, p160, p181, p182, p183, p185]; unfold k0_pay97; rw [lo5]; rfl
/-- The body's sum down to the boundary bucket. -/
theorem p189 : k0_pay189 x0 x1 x2 x3 x4 x5 = sumV .sge (exs x0 x1 x2) (qs x0 x1 x2 x3) (bis (F := F) x0 x1 x2 x3).lo := by
  rw [k0_pay189, p158, p160, p181, p182, p183, p185]; unfold k0_pay98; rw [lo5]; rfl
/-- The body's sum for the hardest negatives. -/
theorem p190 : k0_pay190 x0 x1 x2 x3 x4 x5 = nhs x0 x1 x2 x3 := by
  rw [k0_pay190, p186, p187, p188, p189]; rfl
/-- A part of the rounds' state after some of them, as the body names it. -/
theorem p191 : k0_pay191 x0 x1 x2 x3 x4 x5 = (ext x0 x1 x2 x3 x4 x5 1).slots := by
  rw [k0_pay191, p154, p156]; rfl
/-- A part of the rounds' state after some of them, as the body names it. -/
theorem p192 : k0_pay192 x0 x1 x2 x3 x4 x5 = (ext x0 x1 x2 x3 x4 x5 1).vals := by
  rw [k0_pay192, p154, p156]; rfl
/-- A part of the rounds' state after some of them, as the body names it. -/
theorem p193 : k0_pay193 x0 x1 x2 x3 x4 x5 = (ext x0 x1 x2 x3 x4 x5 2).slots := by
  rw [k0_pay193, p191, p192]; exact slots2 (nrs x0 x1 x2 x3 x4 x5) (nhs x0 x1 x2 x3) _
/-- A part of the rounds' state after some of them, as the body names it. -/
theorem p194 : k0_pay194 x0 x1 x2 x3 x4 x5 = (ext x0 x1 x2 x3 x4 x5 2).vals := by
  rw [k0_pay194, p192]; exact vals2 (nrs x0 x1 x2 x3 x4 x5) (nhs x0 x1 x2 x3) _
/-- A part of the rounds' state after some of them, as the body names it. -/
theorem p195 : k0_pay195 x0 x1 x2 x3 x4 x5 = eqV (ext x0 x1 x2 x3 x4 x5 2).vals := by
  rw [k0_pay195, p192]; exact eq2 (nrs x0 x1 x2 x3 x4 x5) (nhs x0 x1 x2 x3) _
/-- A part of the rounds' state after some of them, as the body names it. -/
theorem p196 : k0_pay196 x0 x1 x2 x3 x4 x5 = mulV (ext x0 x1 x2 x3 x4 x5 2).vals := by
  rw [k0_pay196, p192]; exact mul2 (nrs x0 x1 x2 x3 x4 x5) (nhs x0 x1 x2 x3) _
/-- A part of the rounds' state after some of them, as the body names it. -/
theorem p197 : k0_pay197 x0 x1 x2 x3 x4 x5 = (ext x0 x1 x2 x3 x4 x5 4).slots := by
  rw [k0_pay197, p193, p194, p195, p196]; exact slots4 (nrs x0 x1 x2 x3 x4 x5) (nhs x0 x1 x2 x3) _
/-- A part of the rounds' state after some of them, as the body names it. -/
theorem p198 : k0_pay198 x0 x1 x2 x3 x4 x5 = (ext x0 x1 x2 x3 x4 x5 4).vals := by
  rw [k0_pay198, p194, p195]; exact vals4 (nrs x0 x1 x2 x3 x4 x5) (nhs x0 x1 x2 x3) _
/-- A part of the rounds' state after some of them, as the body names it. -/
theorem p199 : k0_pay199 x0 x1 x2 x3 x4 x5 = minV (ext x0 x1 x2 x3 x4 x5 4).vals := by
  rw [k0_pay199, p194, p195]; exact min4 (nrs x0 x1 x2 x3 x4 x5) (nhs x0 x1 x2 x3) _
/-- A part of the rounds' state after some of them, as the body names it. -/
theorem p200 : k0_pay200 x0 x1 x2 x3 x4 x5 = (ext x0 x1 x2 x3 x4 x5 5).slots := by
  rw [k0_pay200, p197, p198, p199]; exact slots5 (nrs x0 x1 x2 x3 x4 x5) (nhs x0 x1 x2 x3) _
/-- A part of the rounds' state after some of them, as the body names it. -/
theorem p201 : k0_pay201 x0 x1 x2 x3 x4 x5 = (ext x0 x1 x2 x3 x4 x5 5).vals := by
  rw [k0_pay201, p198, p199]; exact vals5 (nrs x0 x1 x2 x3 x4 x5) (nhs x0 x1 x2 x3) _
/-- A part of the rounds' state after some of them, as the body names it. -/
theorem p202 : k0_pay202 x0 x1 x2 x3 x4 x5 = eqV (ext x0 x1 x2 x3 x4 x5 5).vals := by
  rw [k0_pay202, p198, p199]; exact eq5 (nrs x0 x1 x2 x3 x4 x5) (nhs x0 x1 x2 x3) _
/-- A part of the rounds' state after some of them, as the body names it. -/
theorem p203 : k0_pay203 x0 x1 x2 x3 x4 x5 = mulV (ext x0 x1 x2 x3 x4 x5 5).vals := by
  rw [k0_pay203, p198, p199]; exact mul5 (nrs x0 x1 x2 x3 x4 x5) (nhs x0 x1 x2 x3) _

/-- The running sum after the unrolled rounds. -/
theorem acc1 : k0_pay105 (k0_pay2 x0 x1 x2) (k0_pay5 x3) (nrs x0 x1 x2 x3 x4 x5) ((((((Bis.init (F := F)).step3 (qs x0 x1 x2 x3)).step3 (qs x0 x1 x2 x3)).step3 (qs x0 x1 x2 x3)).step3 (qs x0 x1 x2 x3)).step3 (qs x0 x1 x2 x3)).clo ((((((Bis.init (F := F)).step3 (qs x0 x1 x2 x3)).step3 (qs x0 x1 x2 x3)).step3 (qs x0 x1 x2 x3)).step3 (qs x0 x1 x2 x3)).step3 (qs x0 x1 x2 x3)).chi
    (sumV .sgt (exs x0 x1 x2) (qs x0 x1 x2 x3) (bis (F := F) x0 x1 x2 x3).lo) (sumV .sge (exs x0 x1 x2) (qs x0 x1 x2 x3) (bis (F := F) x0 x1 x2 x3).lo)
    = (ext x0 x1 x2 x3 x4 x5 1).acc := rfl

/-- What the body leaves in its one result is the recursion's value. -/
theorem out_eq : out0_6 x0 x1 x2 x3 x4 x5 = kOut x0 x1 x2 x3 x4 x5 := by
  unfold out0_6
  rw [View.canon_unit_zero hz, p154, p156, p157, p159, p186, p187, p188, p189, p190, p191, p192, p193, p194, p195, p196, p197, p198, p199, p200, p201, p202, p203, acc1, acc2, min2 (nrs x0 x1 x2 x3 x4 x5) (nhs x0 x1 x2 x3), take2 (nrs x0 x1 x2 x3 x4 x5) (nhs x0 x1 x2 x3), exp2 (nrs x0 x1 x2 x3 x4 x5) (nhs x0 x1 x2 x3)]
  rw [show (ext x0 x1 x2 x3 x4 x5 1).round (nrs x0 x1 x2 x3 x4 x5) (nhs x0 x1 x2 x3) = (ext x0 x1 x2 x3 x4 x5 2) from rfl, acc4, show ((ext x0 x1 x2 x3 x4 x5 2).round (nrs x0 x1 x2 x3 x4 x5) (nhs x0 x1 x2 x3)).round (nrs x0 x1 x2 x3 x4 x5) (nhs x0 x1 x2 x3) = (ext x0 x1 x2 x3 x4 x5 4) from rfl,
    acc5, min5 (nrs x0 x1 x2 x3 x4 x5) (nhs x0 x1 x2 x3), take5 (nrs x0 x1 x2 x3 x4 x5) (nhs x0 x1 x2 x3), log5 (nrs x0 x1 x2 x3 x4 x5) (nhs x0 x1 x2 x3), add5 (nrs x0 x1 x2 x3 x4 x5) (nhs x0 x1 x2 x3), show (ext x0 x1 x2 x3 x4 x5 4).round (nrs x0 x1 x2 x3 x4 x5) (nhs x0 x1 x2 x3) = (ext x0 x1 x2 x3 x4 x5 5) from rfl,
    acc7, slots7 (nrs x0 x1 x2 x3 x4 x5) (nhs x0 x1 x2 x3), min7 (nrs x0 x1 x2 x3 x4 x5) (nhs x0 x1 x2 x3), eq7 (nrs x0 x1 x2 x3 x4 x5) (nhs x0 x1 x2 x3), show ((ext x0 x1 x2 x3 x4 x5 5).round (nrs x0 x1 x2 x3 x4 x5) (nhs x0 x1 x2 x3)).round (nrs x0 x1 x2 x3 x4 x5) (nhs x0 x1 x2 x3) = (ext x0 x1 x2 x3 x4 x5 7) from rfl, tail8]
  rfl

end assembled

end Cert.Chain

end
-- ==== Proof.Select.lean ====
/- Sums over the least members of a family: the same whichever least members are taken, and what an extraction by
   rounds and a bisection by counts arrive at. -/
module

public import Idealize.ShloMosaic.Lib.Pointwise

@[expose] public section

noncomputable section

namespace Cert.Select

open Finset

/-- `T` holds least members: nothing outside lies below a member. -/
def Least {ι : Type} (v : ι → ℝ) (T : Finset ι) : Prop := ∀ a ∈ T, ∀ b, b ∉ T → v a ≤ v b

/-- Two sets of least members of one size have the same sum of any function of the values. -/
theorem sum_least {ι : Type} [DecidableEq ι] (v : ι → ℝ) (G : ℝ → ℝ) {T T' : Finset ι} (h : Least v T) (h' : Least v T')
    (hc : T.card = T'.card) : ∑ a ∈ T, G (v a) = ∑ a ∈ T', G (v a) := by
  have e1 : ∑ a ∈ T, G (v a) = ∑ a ∈ T \ T', G (v a) + ∑ a ∈ T ∩ T', G (v a) := by
    rw [← sum_union (disjoint_sdiff_inter T T'), sdiff_union_inter]
  have e2 : ∑ a ∈ T', G (v a) = ∑ a ∈ T' \ T, G (v a) + ∑ a ∈ T ∩ T', G (v a) := by
    rw [inter_comm, ← sum_union (disjoint_sdiff_inter T' T), sdiff_union_inter]
  rw [e1, e2]
  congr 1
  have hcard : (T \ T').card = (T' \ T).card := card_sdiff_comm hc
  rcases (T \ T').eq_empty_or_nonempty with h0 | ⟨a, ha⟩
  · rw [h0, card_empty] at hcard
    rw [h0, card_eq_zero.mp hcard.symm]
  · have hpos : 0 < (T' \ T).card := hcard ▸ card_pos.mpr ⟨a, ha⟩
    obtain ⟨b, hb⟩ := card_pos.mp hpos
    have key : ∀ x ∈ T \ T', ∀ y ∈ T' \ T, v x = v y := by
      intro x hx y hy
      rw [mem_sdiff] at hx hy
      exact le_antisymm (h x hx.1 y hy.2) (h' y hy.1 x hx.2)
    rw [sum_congr rfl (fun x hx => by rw [key x hx b hb]), sum_congr (s₁ := T' \ T) rfl (fun y hy => by rw [← key a ha y hy])]
    rw [sum_const, sum_const, hcard, key a ha b hb]

/-- What the extraction holds after `r` rounds: either the strictly least members `D` taken so far, fewer than eight, or
    nothing left to take and the sum over eight least members. -/
def Inv (v : Fin 32 → ℝ) (G : ℝ → ℝ) (r : ℕ) (w : Fin 32 → ℝ) (s acc : ℝ) : Prop :=
  (∃ D : Finset (Fin 32), r ≤ D.card ∧ D.card < 8 ∧ (∀ a ∈ D, ∀ b, b ∉ D → v a < v b) ∧ s = 8 - D.card
    ∧ (∀ a, w a = if a ∈ D then 10000 else v a) ∧ acc = ∑ a ∈ D, G (v a))
  ∨ (s ≤ 0 ∧ ∃ T : Finset (Fin 32), T.card = 8 ∧ Least v T ∧ acc = ∑ a ∈ T, G (v a))

/-- The invariant holds before the first round. -/
theorem inv_zero (v : Fin 32 → ℝ) (G : ℝ → ℝ) : Inv v G 0 v 8 0 :=
  .inl ⟨∅, by simp⟩

/-- One round keeps the invariant. -/
theorem inv_step (v : Fin 32 → ℝ) (G : ℝ → ℝ) (hv : ∀ a, v a ≤ 1) (r : ℕ) (w : Fin 32 → ℝ) (s acc m : ℝ)
    (h : Inv v G r w s acc) (hm : ∀ a, m ≤ w a) (hm' : ∃ a, w a = m) :
    Inv v G (r + 1) (fun a => if w a = m then 10000 else w a) (s - ((univ.filter fun a => w a = m).card : ℝ))
      (acc + min ((univ.filter fun a => w a = m).card : ℝ) (max s 0) * G m) := by
  rcases h with ⟨D, hr, hD8, hD, hs, hw, ha⟩ | ⟨hs, T, hT, hL, ha⟩
  · obtain ⟨a0, ha0⟩ := hm'
    obtain ⟨b, hb⟩ : ∃ b, b ∉ D := by
      by_contra hall
      push Not at hall
      have : D = univ := eq_univ_iff_forall.mpr hall
      rw [this] at hD8
      simp at hD8
    have hm1 : m ≤ 1 := (hm b).trans (by rw [hw b, if_neg hb]; exact hv b)
    have hnot : ∀ a, w a = m → a ∉ D := by
      intro a h1 h2
      rw [hw a, if_pos h2] at h1
      linarith
    set M := univ.filter fun a => w a = m with hMdef
    have hMD : Disjoint D M := by
      rw [disjoint_right]
      intro a h1
      exact hnot a (by simpa [hMdef] using h1)
    have hvM : ∀ a ∈ M, v a = m := by
      intro a h1
      have h2 : w a = m := by simpa [hMdef] using h1
      have h3 := hw a
      rw [if_neg (hnot a h2), h2] at h3
      exact h3.symm
    have hMpos : 0 < M.card := card_pos.mpr ⟨a0, by simp [hMdef, ha0]⟩
    have hrest : ∀ b, b ∉ D → b ∉ M → m < v b := by
      intro b h1 h2
      have h3 := hm b
      have h4 : w b ≠ m := by simpa [hMdef] using h2
      rw [hw b, if_neg h1] at h3 h4
      exact lt_of_le_of_ne h3 (Ne.symm h4)
    have hDlt : ∀ a ∈ D, v a < m := by
      intro a h1
      have := hD a h1 a0 (hnot a0 ha0)
      rwa [hvM a0 (by simp [hMdef, ha0])] at this
    have hDr : (D.card : ℝ) < 8 := by exact_mod_cast hD8
    have hmax : max s 0 = 8 - (D.card : ℝ) := by rw [hs]; exact max_eq_left (by linarith)
    by_cases hlt : D.card + M.card < 8
    · left
      refine ⟨D ∪ M, ?_, ?_, ?_, ?_, ?_, ?_⟩
      · rw [card_union_of_disjoint hMD]; omega
      · rw [card_union_of_disjoint hMD]; exact hlt
      · intro a h1 b h2
        rw [mem_union, not_or] at h2
        have h3 := hrest b h2.1 h2.2
        rcases mem_union.mp h1 with h1 | h1
        · exact (hDlt a h1).trans h3
        · rw [hvM a h1]; exact h3
      · rw [card_union_of_disjoint hMD, hs]; push_cast; ring
      · intro a
        have h5 : (w a = m) ↔ a ∈ M := by simp [hMdef]
        simp only [h5, mem_union]
        by_cases h6 : a ∈ M
        · simp [h6]
        · by_cases h7 : a ∈ D
          · simp [h6, h7, hw a]
          · simp [h6, h7, hw a]
      · have hlt' : (D.card : ℝ) + M.card < 8 := by exact_mod_cast hlt
        rw [sum_union hMD, ha, hmax, min_eq_left (by linarith), sum_congr (s₁ := M) rfl (fun a h1 => by rw [hvM a h1]), sum_const, nsmul_eq_mul]
    · right
      push Not at hlt
      have hlt' : (8 : ℝ) ≤ (D.card : ℝ) + M.card := by exact_mod_cast hlt
      refine ⟨by rw [hs]; linarith, ?_⟩
      obtain ⟨M', hM', hcard⟩ := exists_subset_card_eq (s := M) (n := 8 - D.card) (by omega)
      have hdis : Disjoint D M' := hMD.mono_right hM'
      refine ⟨D ∪ M', ?_, ?_, ?_⟩
      · rw [card_union_of_disjoint hdis]; omega
      · intro a h1 b h2
        rw [mem_union, not_or] at h2
        have hb' : m ≤ v b := by
          by_cases h3 : b ∈ M
          · exact (hvM b h3).ge
          · exact (hrest b h2.1 h3).le
        rcases mem_union.mp h1 with h1 | h1
        · exact (hDlt a h1).le.trans hb'
        · rw [hvM a (hM' h1)]; exact hb'
      · have hc' : (M'.card : ℝ) = 8 - D.card := by rw [hcard, Nat.cast_sub hD8.le]; norm_num
        rw [sum_union hdis, ha, hmax, min_eq_right (by linarith), sum_congr (s₁ := M') rfl (fun a h1 => by rw [hvM a (hM' h1)]), sum_const, nsmul_eq_mul, hc']
  · right
    have h0 : (0 : ℝ) ≤ ((univ.filter fun a => w a = m).card : ℝ) := Nat.cast_nonneg _
    refine ⟨by linarith, T, hT, hL, ?_⟩
    rw [max_eq_right hs, min_eq_right h0, zero_mul, add_zero, ha]

/-- After eight rounds the sum is over eight least members. -/
theorem inv_eight (v : Fin 32 → ℝ) (G : ℝ → ℝ) (w : Fin 32 → ℝ) (s acc : ℝ) (h : Inv v G 8 w s acc) :
    ∃ T : Finset (Fin 32), T.card = 8 ∧ Least v T ∧ acc = ∑ a ∈ T, G (v a) := by
  rcases h with ⟨D, hr, hD8, -⟩ | ⟨-, h⟩
  · omega
  · exact h

/-- The hard negatives: over bucket numbers `q` that order as the values do, the sum above the found bucket with the
    bucket's mean in the places left is the sum over the 32 greatest values, when the bucket is taken whole or its
    values agree. -/
theorem bucket_sum {ι : Type} [Fintype ι] [DecidableEq ι] (v : ι → ℝ) (q : ι → ℤ) (g : ℝ → ℝ) (l : ℤ)
    (hq : ∀ a b, q b < q a → v b ≤ v a)
    (hhi : (univ.filter fun a => l < q a).card < 32) (hlo : 32 ≤ (univ.filter fun a => l ≤ q a).card)
    (hsame : 32 < (univ.filter fun a => l ≤ q a).card → ∀ a b, q a = l → q b = l → v a = v b)
    {T : Finset ι} (hT : T.card = 32) (hL : Least (fun a => - v a) T) :
    (∑ a, if l < q a then g (v a) else 0) + (32 - ((univ.filter fun a => l < q a).card : ℝ))
      * (((∑ a, if l ≤ q a then g (v a) else 0) - (∑ a, if l < q a then g (v a) else 0))
        / max (((univ.filter fun a => l ≤ q a).card : ℝ) - ((univ.filter fun a => l < q a).card : ℝ)) 1)
      = ∑ a ∈ T, g (v a) := by
  set U := univ.filter fun a => l < q a with hU
  set W := univ.filter fun a => l ≤ q a with hW
  have hUW : U ⊆ W := by
    intro a h1
    simp only [hU, hW, mem_filter, mem_univ, true_and] at h1 ⊢
    exact h1.le
  rw [← sum_filter, ← sum_filter, ← hU, ← hW]
  have hdiff : (∑ a ∈ W, g (v a)) - ∑ a ∈ U, g (v a) = ∑ a ∈ W \ U, g (v a) := by
    rw [← sum_sdiff hUW]; ring
  rw [hdiff]
  have hUr : (U.card : ℝ) + 1 ≤ 32 := by exact_mod_cast hhi
  have hWr : (32 : ℝ) ≤ (W.card : ℝ) := by exact_mod_cast hlo
  rw [max_eq_left (by linarith)]
  have memD : ∀ a, a ∈ W \ U → q a = l := by
    intro a h1
    simp only [hU, hW, mem_sdiff, mem_filter, mem_univ, true_and, not_lt] at h1
    exact le_antisymm h1.2 h1.1
  have notW : ∀ a, a ∉ W → q a < l := by
    intro a h1
    simpa [hW] using h1
  have inU : ∀ a, a ∈ U → l < q a := by
    intro a h1
    simpa [hU] using h1
  by_cases hc : W.card = 32
  · have h32 : (W.card : ℝ) = 32 := by exact_mod_cast hc
    have hLW : Least (fun a => - v a) W := by
      intro a h1 b h2
      have h3 : l ≤ q a := by simpa [hW] using h1
      exact neg_le_neg (hq a b ((notW b h2).trans_le h3))
    have hfin := sum_least (fun a => - v a) (fun x => g (-x)) hLW hL (by rw [hc, hT])
    simp only [neg_neg] at hfin
    rw [← hfin, h32, mul_div_cancel₀ _ (by linarith), ← sum_sdiff hUW]
    ring
  · have hgt : 32 < W.card := lt_of_le_of_ne hlo (Ne.symm hc)
    have hcd : (W \ U).card = W.card - U.card := card_sdiff_of_subset hUW
    obtain ⟨M, hM, hMc⟩ := exists_subset_card_eq (s := W \ U) (n := 32 - U.card) (by omega)
    have hdis : Disjoint U M := by
      rw [disjoint_right]
      intro a h1
      exact (mem_sdiff.mp (hM h1)).2
    obtain ⟨a0, h0⟩ : (W \ U).Nonempty := card_pos.mp (by omega)
    have hval : ∀ a ∈ W \ U, g (v a) = g (v a0) := fun a h1 => by
      rw [hsame hgt a a0 (memD a h1) (memD a0 h0)]
    have hLT : Least (fun a => - v a) (U ∪ M) := by
      intro a h1 b h2
      rw [mem_union, not_or] at h2
      apply neg_le_neg
      rcases mem_union.mp h1 with h1 | h1
      · refine hq a b (lt_of_le_of_lt ?_ (inU a h1))
        have h3 := h2.1
        simpa [hU] using h3
      · have hqa := memD a (hM h1)
        by_cases h3 : b ∈ W
        · have hb : b ∈ W \ U := mem_sdiff.mpr ⟨h3, h2.1⟩
          rw [hsame hgt a b hqa (memD b hb)]
        · exact hq a b (by rw [hqa]; exact notW b h3)
    have hfin := sum_least (fun a => - v a) (fun x => g (-x)) hLT hL (by rw [card_union_of_disjoint hdis, hT]; omega)
    simp only [neg_neg] at hfin
    rw [← hfin, sum_union hdis, sum_congr (s₁ := W \ U) rfl hval, sum_congr (s₁ := M) rfl (fun a h1 => hval a (hM h1)),
      sum_const, sum_const, nsmul_eq_mul, nsmul_eq_mul, hMc, hcd, Nat.cast_sub (card_le_card hUW), Nat.cast_sub (by omega : U.card ≤ 32)]
    have : (W.card : ℝ) - U.card ≠ 0 := by linarith
    field_simp
    push_cast
    ring

/-- One halving of an integer bracket. -/
def halve (c : ℤ → ℕ) (b : ℤ × ℤ) : ℤ × ℤ :=
  if 32 ≤ c ((b.1 + b.2) / 2) then ((b.1 + b.2) / 2, b.2) else (b.1, (b.1 + b.2) / 2)

/-- The bracket after `n` halvings of the starting one. -/
def bracket (c : ℤ → ℕ) : ℕ → ℤ × ℤ
  | 0 => (-16385, 8193)
  | n + 1 => halve c (bracket c n)

/-- A halving keeps the bracket inside and around the crossing of thirty-two, and halves its width. -/
theorem halve_inv (c : ℤ → ℕ) (B : ℤ × ℤ) (P : ℤ) (hP : 0 < P) (i1 : -16385 ≤ B.1) (i2 : B.1 < B.2) (i3 : B.2 ≤ 8193)
    (i4 : B.2 - B.1 ≤ 2 * P) (i5 : 32 ≤ c B.1) (i6 : c B.2 < 32) :
    -16385 ≤ (halve c B).1 ∧ (halve c B).1 < (halve c B).2 ∧ (halve c B).2 ≤ 8193
      ∧ (halve c B).2 - (halve c B).1 ≤ P ∧ 32 ≤ c (halve c B).1 ∧ c (halve c B).2 < 32 := by
  by_cases h : 32 ≤ c ((B.1 + B.2) / 2)
  · have e : halve c B = ((B.1 + B.2) / 2, B.2) := if_pos h
    rw [e]
    refine ⟨by dsimp only; omega, ?_, by dsimp only; omega, by dsimp only; omega, h, i6⟩
    dsimp only
    by_contra hc
    have : (B.1 + B.2) / 2 = B.2 := by omega
    rw [this] at h
    omega
  · have e : halve c B = (B.1, (B.1 + B.2) / 2) := if_neg h
    rw [e]
    refine ⟨i1, ?_, by dsimp only; omega, by dsimp only; omega, i5, Nat.lt_of_not_le h⟩
    dsimp only
    by_contra hc
    have : (B.1 + B.2) / 2 = B.1 := by omega
    rw [this] at h
    exact h i5

/-- The bracket stays inside, holds the crossing of thirty-two and shrinks. -/
theorem bracket_inv (c : ℤ → ℕ) (h0 : 32 ≤ c (-16385)) (h1 : c 8193 < 32) (n : ℕ) (hn : n ≤ 15) :
    -16385 ≤ (bracket c n).1 ∧ (bracket c n).1 < (bracket c n).2 ∧ (bracket c n).2 ≤ 8193
      ∧ (bracket c n).2 - (bracket c n).1 ≤ 2 ^ (15 - n) ∧ 32 ≤ c (bracket c n).1 ∧ c (bracket c n).2 < 32 := by
  induction n with
  | zero => exact ⟨le_rfl, by norm_num [bracket], le_rfl, by norm_num [bracket], h0, h1⟩
  | succ n ih =>
    obtain ⟨i1, i2, i3, i4, i5, i6⟩ := ih (by omega)
    have hp : (2 : ℤ) ^ (15 - n) = 2 * 2 ^ (15 - (n + 1)) := by
      rw [← pow_succ']; congr 1; omega
    rw [hp] at i4
    exact halve_inv c (bracket c n) _ (by positivity) i1 i2 i3 i4 i5 i6

/-- After fifteen halvings the bracket's ends are neighbours. -/
theorem bracket_end (c : ℤ → ℕ) (h0 : 32 ≤ c (-16385)) (h1 : c 8193 < 32) :
    (bracket c 15).2 = (bracket c 15).1 + 1 ∧ -16385 ≤ (bracket c 15).1 ∧ (bracket c 15).1 < 8193
      ∧ 32 ≤ c (bracket c 15).1 ∧ c ((bracket c 15).1 + 1) < 32 := by
  obtain ⟨i1, i2, i3, i4, i5, i6⟩ := bracket_inv c h0 h1 15 le_rfl
  norm_num at i4
  have h2 : (bracket c 15).2 = (bracket c 15).1 + 1 := by omega
  exact ⟨h2, i1, by omega, i5, h2 ▸ i6⟩

end Cert.Select

end
-- ==== Proof.Reals.lean ====
/- Extended-real facts: the constants, sums of real values, counts, least values, and rows divided by their norms. -/
module

public import proofs.«01_k».proof.Proof.Gen.KernelIdeal
public import Idealize.ShloMosaic.Lib.Pointwise

@[expose] public section

noncomputable section

namespace Cert.Reals

open Idealize.ShloMosaic Finset

/-- A normal single-precision pattern's value from its three fields. -/
theorem normal (b : BitVec 32) (neg : Bool) (ex fr : ℕ) (h1 : (b.extractLsb' 31 1 == 1#1) = neg)
    (h2 : (b.extractLsb' 23 8).toNat = ex) (h3 : (b.extractLsb' 0 23).toNat = fr) (h4 : ex ≠ 255) (h5 : ex ≠ 0) :
    Ideal.ofBits .f32 b = (((if neg then -1 else 1) * (2 ^ 23 + fr) * (2 : ℝ) ^ ((ex : ℤ) - 127 - 23) : ℝ) : EReal) := by
  show Ideal.ieee 8 23 b = _
  unfold Ideal.ieee
  simp only [h1, h2, h3]
  norm_num [h4, h5]

/-- The number that a literal's word stands for. -/
theorem c32 : Ideal.ofBits .f32 0x42000000#32 = ((32 : ℝ) : EReal) := by
  rw [normal _ false 132 0 (by decide) (by decide) (by decide) (by decide) (by decide)]; congr 1; norm_num
/-- The number that a literal's word stands for. -/
theorem c512 : Ideal.ofBits .f32 0x44000000#32 = ((512 : ℝ) : EReal) := by
  rw [normal _ false 136 0 (by decide) (by decide) (by decide) (by decide) (by decide)]; congr 1; norm_num
/-- The number that a literal's word stands for. -/
theorem c8 : Ideal.ofBits .f32 0x41000000#32 = ((8 : ℝ) : EReal) := by
  rw [normal _ false 130 0 (by decide) (by decide) (by decide) (by decide) (by decide)]; congr 1; norm_num
/-- The number that a literal's word stands for. -/
theorem c2 : Ideal.ofBits .f32 0x40000000#32 = ((2 : ℝ) : EReal) := by
  rw [normal _ false 128 0 (by decide) (by decide) (by decide) (by decide) (by decide)]; congr 1; norm_num
/-- The number that a literal's word stands for. -/
theorem c16 : Ideal.ofBits .f32 0x41800000#32 = ((16 : ℝ) : EReal) := by
  rw [normal _ false 131 0 (by decide) (by decide) (by decide) (by decide) (by decide)]; congr 1; norm_num
/-- The number that a literal's word stands for. -/
theorem c10 : Ideal.ofBits .f32 0x41200000#32 = ((10 : ℝ) : EReal) := by
  rw [normal _ false 130 2097152 (by decide) (by decide) (by decide) (by decide) (by decide)]; congr 1; norm_num
/-- The number that a literal's word stands for. -/
theorem c1e4 : Ideal.ofBits .f32 0x461C4000#32 = ((10000 : ℝ) : EReal) := by
  rw [normal _ false 140 1851392 (by decide) (by decide) (by decide) (by decide) (by decide)]; congr 1; norm_num
/-- The number that a literal's word stands for. -/
theorem cn1e4 : Ideal.ofBits .f32 0xC61C4000#32 = ((-10000 : ℝ) : EReal) := by
  rw [normal _ true 140 1851392 (by decide) (by decide) (by decide) (by decide) (by decide)]; congr 1; norm_num
/-- The number that a literal's word stands for. -/
theorem cn1 : Ideal.ofBits .f32 0xBF800000#32 = ((-1 : ℝ) : EReal) := by
  rw [normal _ true 127 0 (by decide) (by decide) (by decide) (by decide) (by decide)]; congr 1; norm_num
/-- The number that a literal's word stands for. -/
theorem c8192 : Ideal.ofBits .f32 0x46000000#32 = ((8192 : ℝ) : EReal) := by
  rw [normal _ false 140 0 (by decide) (by decide) (by decide) (by decide) (by decide)]; congr 1; norm_num
/-- The number that a literal's word stands for. -/
theorem cn16384 : Ideal.ofBits .f32 0xC6800000#32 = ((-16384 : ℝ) : EReal) := by
  rw [normal _ true 141 0 (by decide) (by decide) (by decide) (by decide) (by decide)]; congr 1; norm_num
/-- The number that a literal's word stands for. -/
theorem cT : Ideal.ofBits .f32 0x3F4CCCCD#32 = ((13421773 / 16777216 : ℝ) : EReal) := by
  rw [normal _ false 126 5033165 (by decide) (by decide) (by decide) (by decide) (by decide)]; congr 1; norm_num
/-- The number that a literal's word stands for. -/
theorem cinf : Ideal.ofBits .f32 0x7F800000#32 = (⊤ : EReal) := by
  have h : Ideal.ieee 8 23 (0x7F800000#32) = (⊤ : EReal) := by
    unfold Ideal.ieee
    simp only
    rw [if_pos (by decide), if_pos (by decide), if_neg (by decide)]
  exact h

/-- The reciprocal of the temperature. -/
def iT : ℝ := 16777216 / 13421773

/-- The named constant 1/T. -/
theorem named_inv_T : Named.named (F := Ideal) Cert.KernelIdeal.κ "inv_T" (φ := .f32) 0x3FA00000#32 = ((iT : ℝ) : EReal) := rfl
/-- The named constant 2/T. -/
theorem named_two_over_T : Named.named (F := Ideal) Cert.KernelIdeal.κ "two_over_T" (φ := .f32) 0x40200000#32 = ((2 * iT : ℝ) : EReal) := by
  show (((33554432 / 13421773 : ℝ)) : EReal) = _
  congr 1
  norm_num [iT]

/-- A sum of reals as an extended real. -/
theorem coe_sum {ι : Type} (s : Finset ι) (f : ι → ℝ) : ((∑ a ∈ s, f a : ℝ) : EReal) = ∑ a ∈ s, (f a : EReal) := by
  classical
  induction s using Finset.induction_on with
  | empty => simp
  | insert a s h ih => rw [sum_insert h, sum_insert h, EReal.coe_add, ih]

/-- The least of two reals, as an extended real. -/
theorem coe_min (a b : ℝ) : ((min a b : ℝ) : EReal) = min (a : EReal) b := EReal.coe_strictMono.monotone.map_min
/-- The greatest of two reals, as an extended real. -/
theorem coe_max (a b : ℝ) : ((max a b : ℝ) : EReal) = max (a : EReal) b := EReal.coe_strictMono.monotone.map_max

/-- The quotient by a nonzero real is the real quotient. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The logarithm of a positive real. -/
theorem log_pos (r : ℝ) (h : 0 < r) : Ideal.log (r : EReal) = ((Real.log r : ℝ) : EReal) := by
  rw [Ideal.log_coe, if_neg (not_le.mpr h)]

/-- A truth value as a number. -/
theorem sitofp_bool (p : Bool) : FloatOps.sitofp (F := Ideal) .f32 (BitVec.setWidth 32 (BitVec.ofBool p)) = (((if p = true then 1 else 0 : ℝ)) : EReal) := by
  cases p <;> simp [FloatOps.sitofp]

/-- A bit converted to a float is one or zero. -/
theorem uitofp_bool (p : Bool) : FloatOps.uitofp (F := Ideal) .f32 (BitVec.ofBool p) = (((if p = true then 1 else 0 : ℝ)) : EReal) := by
  cases p <;> simp [FloatOps.uitofp]

/-- A count of truth values, as a sum of numbers. -/
theorem sum_count {n : ℕ} (p : Fin n → Prop) [DecidablePred p] :
    ∑ x, (((if p x then 1 else 0 : ℝ)) : EReal) = (((univ.filter p).card : ℝ) : EReal) := by
  rw [← coe_sum]
  congr 1
  simp

/-- The wrapping count of truth values. -/
theorem fold_count {n : ℕ} (p : Fin n → Prop) [DecidablePred p] (f : Fin n → BitVec 32) (hf : ∀ x, f x = if p x then 1#32 else 0#32) :
    Finset.fold IntOp.addi (0#32) f univ = BitVec.ofNat 32 (univ.filter p).card := by
  have key : ∀ s : Finset (Fin n), Finset.fold IntOp.addi (0#32) f s = BitVec.ofNat 32 (s.filter p).card := by
    intro s
    induction s using Finset.induction_on with
    | empty => simp
    | insert a s h ih =>
      rw [Finset.fold_insert h, ih, hf a, filter_insert]
      by_cases hp : p a
      · rw [if_pos hp, if_pos hp, card_insert_of_notMem (fun hh => h (mem_filter.mp hh).1)]
        show 1#32 + BitVec.ofNat 32 _ = _
        rw [BitVec.ofNat_add, BitVec.add_comm]
      · rw [if_neg hp, if_neg hp]
        show 0#32 + BitVec.ofNat 32 _ = _
        rw [BitVec.zero_add]
  exact key univ

/-- The wrapping sum of a table column read at one place. -/
theorem fold_pick {n : ℕ} (L : Fin n) (v f : Fin n → BitVec 32) (hf : ∀ x, f x = if x = L then v x else 0#32) :
    Finset.fold IntOp.addi (0#32) f univ = v L := by
  have key : ∀ s : Finset (Fin n), Finset.fold IntOp.addi (0#32) f s = if L ∈ s then v L else 0#32 := by
    intro s
    induction s using Finset.induction_on with
    | empty => simp
    | insert a s h ih =>
      rw [Finset.fold_insert h, ih, hf a]
      by_cases hp : a = L
      · subst hp
        rw [if_pos rfl, if_neg h, if_pos (mem_insert_self _ _)]
        exact BitVec.add_zero _
      · rw [if_neg hp]
        have : (L ∈ insert a s) ↔ L ∈ s := by simp [mem_insert, Ne.symm hp]
        simp only [this]
        exact BitVec.zero_add _
  rw [key, if_pos (mem_univ _)]

/-- The least of real values is one of them and below all. -/
theorem fold_min {n : ℕ} [NeZero n] (f : Fin n → EReal) (v : Fin n → ℝ) (hf : ∀ x, f x = (v x : EReal)) :
    ∃ m : ℝ, Finset.fold min (⊤ : EReal) f univ = (m : EReal) ∧ (∀ a, m ≤ v a) ∧ ∃ a, v a = m := by
  obtain ⟨a, -, ha⟩ := exists_min_image (univ : Finset (Fin n)) v ⟨0, mem_univ _⟩
  refine ⟨v a, ?_, fun b => ha b (mem_univ _), a, rfl⟩
  apply le_antisymm
  · rw [Finset.fold_min_le]
    exact .inr ⟨a, mem_univ _, (hf a).le⟩
  · rw [Finset.le_fold_min]
    refine ⟨le_top, fun b _ => ?_⟩
    rw [hf b]
    exact_mod_cast ha b (mem_univ _)

/-- A square is not negative. -/
theorem sq_nonneg' (x : EReal) : 0 ≤ x * x := by
  induction x with
  | bot => simp
  | top => simp
  | coe r => exact_mod_cast mul_self_nonneg r

/-- A row with positive sum of squares, divided by its norm in either way, is one real row of norm at most one. -/
theorem unit_row {n : ℕ} (f : Fin n → EReal) (h : 0 < ∑ k, f k * f k) :
    ∃ u : Fin n → ℝ, (∀ k, f k * Ideal.rsqrt (∑ k, f k * f k) = (u k : EReal))
      ∧ (∀ k, Ideal.div (f k) (Ideal.sqrt (∑ k, f k * f k)) = (u k : EReal)) ∧ ∑ k, u k * u k ≤ 1 := by
  generalize hN : ∑ k, f k * f k = N at h ⊢
  induction N using EReal.rec with
  | bot => exact absurd h (by simp)
  | top =>
    refine ⟨fun _ => 0, fun k => ?_, fun k => ?_, by simp⟩
    · show f k * Ideal.rsqrt ⊤ = _
      simp
    · show Ideal.div (f k) (Ideal.sqrt ⊤) = _
      simp [Ideal.div]
  | coe r =>
    have hr : 0 < r := by exact_mod_cast h
    have hfin : ∀ k, ∃ g : ℝ, f k = (g : EReal) := by
      intro k
      have hle : f k * f k ≤ (r : EReal) := by
        have := single_le_sum (f := fun k => f k * f k) (s := univ) (fun k _ => sq_nonneg' (f k)) (mem_univ k)
        rw [hN] at this
        exact this
      generalize f k = y at hle
      induction y using EReal.rec with
      | bot => exact absurd hle (by simp)
      | top => exact absurd hle (by simp)
      | coe g => exact ⟨g, rfl⟩
    choose g hg using hfin
    have hs : ∑ k, g k * g k = r := by
      have : ((∑ k, g k * g k : ℝ) : EReal) = (r : EReal) := by
        rw [coe_sum]
        refine Eq.trans (sum_congr rfl fun k _ => ?_) hN
        rw [hg k, EReal.coe_mul]
      exact_mod_cast this
    have hq : Real.sqrt r ≠ 0 := (Real.sqrt_pos.mpr hr).ne'
    refine ⟨fun k => g k * (Real.sqrt r)⁻¹, fun k => ?_, fun k => ?_, le_of_eq ?_⟩
    · show f k * Ideal.rsqrt (r : EReal) = _
      rw [Ideal.rsqrt_coe, if_neg hr.not_gt, if_neg hr.ne', hg k, ← EReal.coe_mul]
    · show Ideal.div (f k) (Ideal.sqrt (r : EReal)) = _
      rw [Ideal.sqrt_coe, if_neg hr.not_gt, hg k, div_coe _ _ hq, div_eq_mul_inv]
    · have e : ∀ k, g k * (Real.sqrt r)⁻¹ * (g k * (Real.sqrt r)⁻¹) = g k * g k * r⁻¹ := by
        intro k
        have : (Real.sqrt r)⁻¹ * (Real.sqrt r)⁻¹ = r⁻¹ := by rw [← mul_inv, Real.mul_self_sqrt hr.le]
        rw [← this]; ring
      rw [sum_congr rfl fun k _ => e k, ← sum_mul, hs, mul_inv_cancel₀ hr.ne']

/-- Two rows of norm at most one have a product between minus one and one. -/
theorem abs_dot_le {n : ℕ} (u v : Fin n → ℝ) (hu : ∑ k, u k * u k ≤ 1) (hv : ∑ k, v k * v k ≤ 1) :
    -1 ≤ ∑ k, u k * v k ∧ ∑ k, u k * v k ≤ 1 := by
  have h1 : 0 ≤ ∑ k, (u k + v k) * (u k + v k) := sum_nonneg fun k _ => mul_self_nonneg _
  have h2 : 0 ≤ ∑ k, (u k - v k) * (u k - v k) := sum_nonneg fun k _ => mul_self_nonneg _
  have e1 : ∑ k, (u k + v k) * (u k + v k) = ∑ k, u k * u k + 2 * ∑ k, u k * v k + ∑ k, v k * v k := by
    rw [mul_sum, ← sum_add_distrib, ← sum_add_distrib]; exact sum_congr rfl fun k _ => by ring
  have e2 : ∑ k, (u k - v k) * (u k - v k) = ∑ k, u k * u k - 2 * ∑ k, u k * v k + ∑ k, v k * v k := by
    rw [mul_sum, ← sum_sub_distrib, ← sum_add_distrib]; exact sum_congr rfl fun k _ => by ring
  constructor <;> linarith

end Cert.Reals

end
-- ==== Proof.Row.lean ====
/- The value of one row of the loss: eight positives of least similarity, each against its thirty-two hardest and its
   chosen random negatives. The value does not depend on how ties among the selected are broken. -/
module

public import proofs.«01_k».proof.Proof.Select
public import proofs.«01_k».proof.Proof.Reals

@[expose] public section

noncomputable section

namespace Cert.Row

open Finset Cert.Select Cert.Reals

/-- The two cross entropies of one positive of similarity `x` against negatives of exponential sums `h` and `r`. -/
def cost (h r x : ℝ) : ℝ := Real.log (Real.exp (x * iT) + h) + Real.log (Real.exp (x * iT) + r) - 2 * iT * x

/-- The exponentials' sum over a set. -/
def expSum (σ : Fin 512 → ℝ) (T : Finset (Fin 512)) : ℝ := ∑ j ∈ T, Real.exp (σ j * iT)

/-- `y` is the row's sum of costs: `P` the positives, `C` the chosen random negatives. -/
def Row (σ : Fin 512 → ℝ) (P C : Finset (Fin 512)) (y : ℝ) : Prop :=
  ∃ A B : Finset (Fin 512), A.card = 8 ∧ B.card = 32 ∧ A ⊆ P ∧ (∀ j ∈ B, j ∉ P)
    ∧ (∀ a ∈ A, ∀ b ∈ P, b ∉ A → σ a ≤ σ b) ∧ (∀ a ∈ B, ∀ b, b ∉ P → b ∉ B → σ b ≤ σ a)
    ∧ y = ∑ j ∈ A, cost (expSum σ B) (expSum σ C) (σ j)

/-- The exponentials' sum over the greatest non-positives does not depend on the choice among equals. -/
theorem expSum_hard (σ : Fin 512 → ℝ) (hσ : ∀ j, -1 ≤ σ j ∧ σ j ≤ 1) (P : Finset (Fin 512)) {B B' : Finset (Fin 512)}
    (hc : B.card = B'.card) (hP : ∀ j ∈ B, j ∉ P) (hP' : ∀ j ∈ B', j ∉ P) (h : ∀ a ∈ B, ∀ b, b ∉ P → b ∉ B → σ b ≤ σ a)
    (h' : ∀ a ∈ B', ∀ b, b ∉ P → b ∉ B' → σ b ≤ σ a) : expSum σ B = expSum σ B' := by
  have key : ∀ D : Finset (Fin 512), (∀ j ∈ D, j ∉ P) → (∀ a ∈ D, ∀ b, b ∉ P → b ∉ D → σ b ≤ σ a) →
      Least (fun j => if j ∈ P then (10000 : ℝ) else - σ j) D := by
    intro D hD hl a ha b hb
    simp only [if_neg (hD a ha)]
    by_cases hbP : b ∈ P
    · rw [if_pos hbP]; linarith [(hσ a).1]
    · rw [if_neg hbP]; linarith [hl a ha b hbP hb]
  have e := sum_least _ (fun x => Real.exp (-x * iT)) (key B hP h) (key B' hP' h') hc
  have val : ∀ D : Finset (Fin 512), (∀ j ∈ D, j ∉ P) →
      ∑ j ∈ D, Real.exp (-(if j ∈ P then (10000 : ℝ) else - σ j) * iT) = expSum σ D := by
    intro D hD
    refine sum_congr rfl fun j hj => ?_
    rw [if_neg (hD j hj), neg_neg]
  rw [val B hP, val B' hP'] at e
  exact e

/-- A row has one value. -/
theorem row_unique (σ : Fin 512 → ℝ) (hσ : ∀ j, -1 ≤ σ j ∧ σ j ≤ 1) (P C : Finset (Fin 512)) (y y' : ℝ) (h : Row σ P C y)
    (h' : Row σ P C y') : y = y' := by
  obtain ⟨A, B, hA, hB, hAP, hBP, hl, hg, rfl⟩ := h
  obtain ⟨A', B', hA', hB', hAP', hBP', hl', hg', rfl⟩ := h'
  rw [expSum_hard σ hσ P (hB.trans hB'.symm) hBP hBP' hg hg']
  have key : ∀ D : Finset (Fin 512), D ⊆ P → (∀ a ∈ D, ∀ b ∈ P, b ∉ D → σ a ≤ σ b) →
      Least (fun j => if j ∈ P then σ j else (10000 : ℝ)) D := by
    intro D hD hl a ha b hb
    simp only [if_pos (hD ha)]
    by_cases hbP : b ∈ P
    · rw [if_pos hbP]; exact hl a ha b hbP hb
    · rw [if_neg hbP]; linarith [(hσ a).2]
  have e := sum_least _ (cost (expSum σ B') (expSum σ C)) (key A hAP hl) (key A' hAP' hl') (hA.trans hA'.symm)
  have val : ∀ D : Finset (Fin 512), D ⊆ P →
      ∑ j ∈ D, cost (expSum σ B') (expSum σ C) (if j ∈ P then σ j else (10000 : ℝ)) = ∑ j ∈ D, cost (expSum σ B') (expSum σ C) (σ j) := by
    intro D hD
    refine sum_congr rfl fun j hj => ?_
    rw [if_pos (hD hj)]
  rw [val A hAP, val A' hAP'] at e
  exact e

end Cert.Row

end
-- ==== Proof.Lane.lean ====
/- The kernel's body read lane by lane: bucket numbers, the bisection, the negatives' sums. -/
module

public import proofs.«01_k».proof.Proof.Chain
public import proofs.«01_k».proof.Proof.Row

@[expose] public section

noncomputable section

namespace Cert.Lane

open Cert.KernelIdeal Cert.KernelIdeal.Gen Idealize.ShloMosaic Idealize.SL.Sem Cert.Chain Finset Cert.Select Cert.Reals Cert.Row

/-- The positives of the lane of label `L`: the slots of that label. -/
def pos (L : Fin 16) : Finset (Fin 512) := univ.filter fun j => j.val % 16 = L.val

/-- A slot is positive for a class when its number is the class modulo sixteen. -/
theorem mem_pos (L : Fin 16) (j : Fin 512) : j ∈ pos L ↔ j.val % 16 = L.val := by simp [pos]

/-- The low four bits of a slot number compared with a label. -/
theorem slot_eq (j : Fin 512) (L : Fin 16) :
    ((IntOp.andi (BitVec.ofNat 32 j.val) 15#32) = BitVec.ofNat 32 L.val) ↔ j.val % 16 = L.val := by
  have e : IntOp.andi (BitVec.ofNat 32 j.val) 15#32 = BitVec.ofNat 32 (j.val % 16) := by
    apply BitVec.eq_of_toNat_eq
    show (BitVec.ofNat 32 j.val &&& 15#32).toNat = _
    rw [BitVec.toNat_and]
    simp only [BitVec.toNat_ofNat]
    rw [show (15 % 2 ^ 32 : ℕ) = 2 ^ 4 - 1 from rfl, Nat.and_two_pow_sub_one_eq_mod]
    omega
  rw [e]
  constructor
  · intro h
    have := congrArg BitVec.toNat h
    simp only [BitVec.toNat_ofNat] at this
    omega
  · intro h; rw [h]

/-- The kernel's mask of positives at a slot. -/
theorem pay4_apply (x3 : IVec S1x512 32) (i : Fin 512) (L : Fin 16) (hL : x3 (ix2 0 i) = BitVec.ofNat 32 L.val) (j : Fin 512) :
    k0_pay4 (F := Ideal) x3 (ix2 j i) = if j ∈ pos L then 1#1 else 0#1 := by
  pointwise [k0_pay4, k0_pay3]
  rw [hL]
  show BitVec.ofBool (_ == _) = _
  by_cases h : j ∈ pos L
  · rw [if_pos h, (slot_eq j L).mpr ((mem_pos L j).mp h)]; simp
  · rw [if_neg h, beq_eq_false_iff_ne.mpr fun e => h ((mem_pos L j).mpr ((slot_eq j L).mp e))]; rfl

/-- The number of the bucket of a slot's similarity. -/
def qz (L : Fin 16) (σ : Fin 512 → ℝ) (j : Fin 512) : ℤ := if j ∈ pos L then -16384 else ⌊σ j * 8192⌋

/-- A similarity's bucket lies between -8192 and 8192. -/
theorem floor_le (x : ℝ) (h : -1 ≤ x ∧ x ≤ 1) : -8192 ≤ ⌊x * 8192⌋ ∧ ⌊x * 8192⌋ ≤ 8192 := by
  constructor
  · rw [Int.le_floor]; push_cast; linarith [h.1]
  · have : ⌊x * 8192⌋ < 8193 := by rw [Int.floor_lt]; push_cast; linarith [h.2]
    omega

/-- A bucket's number lies between -16384 and 8192. -/
theorem qz_bound (L : Fin 16) (σ : Fin 512 → ℝ) (hσ : ∀ j, -1 ≤ σ j ∧ σ j ≤ 1) (j : Fin 512) :
    -16384 ≤ qz L σ j ∧ qz L σ j ≤ 8192 := by
  unfold qz
  split
  · omega
  · have := floor_le (σ j) (hσ j); omega

/-- A small integer converted to a word and narrowed keeps its value. -/
theorem narrow (z : ℤ) (h1 : -16384 ≤ z) (h2 : z ≤ 8192) :
    (BitVec.setWidth 16 (FloatOps.fptosi (F := Ideal) (φ := .f32) 32 (((z : ℝ)) : EReal))).toInt = z := by
  have e : FloatOps.fptosi (F := Ideal) (φ := .f32) 32 (((z : ℝ)) : EReal) = BitVec.ofInt 32 z := by
    show BitVec.ofInt 32 (Ideal.toIntClamped _ _ ((z : ℝ) : EReal)) = _
    congr 1
    show max _ (min _ (if 0 ≤ (z : ℝ) then ⌊(z : ℝ)⌋ else ⌈(z : ℝ)⌉)) = z
    rw [Int.floor_intCast, Int.ceil_intCast, ite_self]
    norm_num
    omega
  rw [e]
  rw [BitVec.toInt_setWidth, BitVec.toNat_ofInt]
  simp only [Int.bmod_def]
  omega

/-- The kernel's sixteen bit bucket, as an integer. -/
theorem pay9_apply (v13 : FVec Ideal S512x512 .f32) (v20 : IVec S512x512 1) (i : Fin 512) (L : Fin 16) (σ : Fin 512 → ℝ)
    (hσ : ∀ j, -1 ≤ σ j ∧ σ j ≤ 1) (hS : ∀ j, v13 (ix2 j i) = (σ j : EReal))
    (hp : ∀ j, v20 (ix2 j i) = if j ∈ pos L then 1#1 else 0#1) (j : Fin 512) :
    (k0_pay9 v13 v20 (ix2 j i)).toInt = qz L σ j := by
  pointwise [k0_pay9]
  rw [hp, hS, cn16384, c8192, ← EReal.coe_mul]
  have e : Scalar.select (if j ∈ pos L then 1#1 else 0#1) (((-16384 : ℝ)) : EReal) (Ideal.liftRound Int.floor ((σ j * 8192 : ℝ) : EReal))
      = (((qz L σ j : ℤ) : ℝ) : EReal) := by
    unfold qz
    by_cases h : j ∈ pos L
    · rw [if_pos h, if_pos h]
      refine (if_pos (by decide)).trans ?_
      norm_num
    · rw [if_neg h, if_neg h]
      exact (if_neg (by decide)).trans rfl
  rw [e]
  exact narrow _ (qz_bound L σ hσ j).1 (qz_bound L σ hσ j).2

/-- How many slots' bucket numbers reach a bound. -/
def cz (L : Fin 16) (σ : Fin 512 → ℝ) (x : ℤ) : ℕ := (univ.filter fun j => x ≤ qz L σ j).card

/-- Narrowing a small word keeps its value. -/
theorem narrow_word (w : BitVec 32) (h1 : -16385 ≤ w.toInt) (h2 : w.toInt ≤ 8193) : (BitVec.setWidth 16 w).toInt = w.toInt := by
  rw [BitVec.toInt_setWidth]
  have := BitVec.toInt_eq_toNat_cond w
  simp only [Int.bmod_def]
  split at this <;> omega

/-- A count of at most 512 converted to a float is that number. -/
theorem ofInt_count (n : ℕ) (h : n ≤ 512) : FloatOps.sitofp (F := Ideal) .f32 (BitVec.ofNat 32 n) = (((n : ℝ)) : EReal) := by
  show (((BitVec.ofNat 32 n).toInt : ℝ) : EReal) = _
  have : (BitVec.ofNat 32 n).toInt = n := by
    rw [BitVec.toInt_ofNat']
    simp only [Int.bmod_def]
    omega
  rw [this]
  norm_num

section lane
variable (i : Fin 512) (L : Fin 16) (σ : Fin 512 → ℝ) (hσ : ∀ j, -1 ≤ σ j ∧ σ j ≤ 1)
variable (q : IVec S512x512 16) (hq : ∀ j, (q (ix2 j i)).toInt = qz L σ j)
include hσ hq

/-- Narrowed to sixteen bits, a bound compares with a bucket as the integers do. -/
theorem cmp_ge (mid : BitVec 32) (h1 : -16385 ≤ mid.toInt) (h2 : mid.toInt ≤ 8193) (j : Fin 512) :
    IntOp.cmpi CmpIPredicate.sge (q (ix2 j i)) (BitVec.setWidth 16 mid) = if mid.toInt ≤ qz L σ j then 1#1 else 0#1 := by
  show BitVec.ofBool (BitVec.sle _ _) = _
  rw [BitVec.sle_eq_decide, narrow_word mid h1 h2, hq j]
  by_cases h : mid.toInt ≤ qz L σ j <;> simp [h]

/-- The same for the strict comparison. -/
theorem cmp_gt (mid : BitVec 32) (h1 : -16385 ≤ mid.toInt) (h2 : mid.toInt ≤ 8193) (j : Fin 512) :
    IntOp.cmpi CmpIPredicate.sgt (q (ix2 j i)) (BitVec.setWidth 16 mid) = if mid.toInt < qz L σ j then 1#1 else 0#1 := by
  show BitVec.ofBool (BitVec.slt _ _) = _
  rw [BitVec.slt_eq_decide, narrow_word mid h1 h2, hq j]
  by_cases h : mid.toInt < qz L σ j <;> simp [h]

/-- The kernel's count of the buckets at or above a bound. -/
theorem cnt_apply (mid : IVec S1x512 32) (h1 : -16385 ≤ (mid (ix2 0 i)).toInt) (h2 : (mid (ix2 0 i)).toInt ≤ 8193) :
    cntV (F := Ideal) q mid (ix2 0 i) = (((cz L σ (mid (ix2 0 i)).toInt : ℕ) : ℝ) : EReal) := by
  pointwise [cntV]
  rw [fold_count (fun j => (mid (ix2 0 i)).toInt ≤ qz L σ j)]
  · exact ofInt_count _ ((card_filter_le _ _).trans (by simp))
  · intro j
    rw [cmp_ge i L σ hσ q hq _ h1 h2 j]
    by_cases h : (mid (ix2 0 i)).toInt ≤ qz L σ j
    · rw [if_pos h, if_pos h]; decide
    · rw [if_neg h, if_neg h]; decide

/-- The lane of a bracket of the bisection holds the ends `B` and the counts at them. -/
def At (b : Bis Ideal) (B : ℤ × ℤ) : Prop :=
  (b.lo (ix2 0 i)).toInt = B.1 ∧ (b.hi (ix2 0 i)).toInt = B.2
    ∧ b.clo (ix2 0 i) = (((cz L σ B.1 : ℕ) : ℝ) : EReal) ∧ b.chi (ix2 0 i) = (((cz L σ B.2 : ℕ) : ℝ) : EReal)

omit hq hσ in
/-- The midpoint's word is half the sum, rounded down. -/
theorem mid_toInt (a b : BitVec 32) (h1 : -16385 ≤ a.toInt) (h2 : a.toInt ≤ 8193) (h3 : -16385 ≤ b.toInt) (h4 : b.toInt ≤ 8193) :
    (BitVec.sshiftRight (a + b) 1).toInt = (a.toInt + b.toInt) / 2 := by
  rw [BitVec.toInt_sshiftRight, BitVec.toInt_add, Int.shiftRight_eq_div_pow]
  simp only [Int.bmod_def]
  norm_num
  omega

/-- One step of the kernel's bisection is one step on the integers. -/
theorem step_at (b : Bis Ideal) (B : ℤ × ℤ) (h : At i L σ b B) (h1 : -16385 ≤ B.1) (h2 : B.1 < B.2) (h3 : B.2 ≤ 8193) :
    At i L σ (b.step q) (halve (cz L σ) B) := by
  obtain ⟨e1, e2, e3, e4⟩ := h
  have hm : (b.mid (ix2 0 i)).toInt = (B.1 + B.2) / 2 := by
    have : b.mid (ix2 0 i) = BitVec.sshiftRight (b.lo (ix2 0 i) + b.hi (ix2 0 i)) 1 := by
      show midV b.lo b.hi (ix2 0 i) = _
      pointwise [midV]
      rfl
    rw [this, mid_toInt _ _ (by omega) (by omega) (by omega) (by omega), e1, e2]
  have hc : b.cnt q (ix2 0 i) = (((cz L σ ((B.1 + B.2) / 2) : ℕ) : ℝ) : EReal) := by
    rw [← hm]
    exact cnt_apply i L σ hσ q hq b.mid (by omega) (by omega)
  have hp : b.pred q (ix2 0 i) = if 32 ≤ cz L σ ((B.1 + B.2) / 2) then 1#1 else 0#1 := by
    show predV (b.cnt q) (ix2 0 i) = _
    pointwise [predV]
    rw [hc, c32]
    by_cases h : 32 ≤ cz L σ ((B.1 + B.2) / 2)
    · rw [if_pos h, decide_eq_true (by exact_mod_cast h)]; rfl
    · rw [if_neg h, decide_eq_false (by intro hh; exact h (by exact_mod_cast hh))]; rfl
  unfold halve
  by_cases h : 32 ≤ cz L σ ((B.1 + B.2) / 2)
  · rw [if_pos h] at hp ⊢
    refine ⟨?_, ?_, ?_, ?_⟩
    · show (Scalar.select (b.pred q (ix2 0 i)) (b.mid (ix2 0 i)) (b.lo (ix2 0 i))).toInt = _
      rw [hp]; exact hm
    · show (Scalar.select (b.pred q (ix2 0 i)) (b.hi (ix2 0 i)) (b.mid (ix2 0 i))).toInt = _
      rw [hp]; exact e2
    · show (Scalar.select (b.pred q (ix2 0 i)) (b.cnt q (ix2 0 i)) (b.clo (ix2 0 i))) = _
      rw [hp]; exact hc
    · show (Scalar.select (b.pred q (ix2 0 i)) (b.chi (ix2 0 i)) (b.cnt q (ix2 0 i))) = _
      rw [hp]; exact e4
  · rw [if_neg h] at hp ⊢
    refine ⟨?_, ?_, ?_, ?_⟩
    · show (Scalar.select (b.pred q (ix2 0 i)) (b.mid (ix2 0 i)) (b.lo (ix2 0 i))).toInt = _
      rw [hp]; exact e1
    · show (Scalar.select (b.pred q (ix2 0 i)) (b.hi (ix2 0 i)) (b.mid (ix2 0 i))).toInt = _
      rw [hp]; exact hm
    · show (Scalar.select (b.pred q (ix2 0 i)) (b.cnt q (ix2 0 i)) (b.clo (ix2 0 i))) = _
      rw [hp]; exact e3
    · show (Scalar.select (b.pred q (ix2 0 i)) (b.chi (ix2 0 i)) (b.cnt q (ix2 0 i))) = _
      rw [hp]; exact hc

omit hq in
/-- Every bucket is above the first lower bound. -/
theorem cz_low : cz L σ (-16385) = 512 := by
  unfold cz
  rw [filter_true_of_mem fun j _ => by have := qz_bound L σ hσ j; omega]
  simp

omit hq in
/-- No bucket reaches the first upper bound. -/
theorem cz_high : cz L σ 8193 = 0 := by
  unfold cz
  rw [card_eq_zero, filter_eq_empty_iff]
  intro j _ h
  have := qz_bound L σ hσ j
  omega

omit hq in
/-- The bisection starts from the bracket of no steps. -/
theorem init_at : At i L σ (Bis.init (F := Ideal)) (bracket (cz L σ) 0) := by
  refine ⟨?_, ?_, ?_, ?_⟩
  · show (k0_pay10 (ix2 0 i)).toInt = -16385
    pointwise [k0_pay10]
    decide
  · show (k0_pay11 (ix2 0 i)).toInt = 8193
    pointwise [k0_pay11]
    decide
  · show k0_pay12 (F := Ideal) (ix2 0 i) = (((cz L σ (-16385) : ℕ) : ℝ) : EReal)
    pointwise [k0_pay12]
    rw [cz_low L σ hσ, c512]; norm_num
  · show k0_pay13 (F := Ideal) (ix2 0 i) = (((cz L σ 8193 : ℕ) : ℝ) : EReal)
    pointwise [k0_pay13]
    rw [cz_high L σ hσ]; norm_num

/-- Three steps of the bisection. -/
theorem step3_at (n : ℕ) (hn : n + 3 ≤ 15) (b : Bis Ideal) (h : At i L σ b (bracket (cz L σ) n)) :
    At i L σ (b.step3 q) (bracket (cz L σ) (n + 3)) := by
  have hl : 32 ≤ cz L σ (-16385) := by rw [cz_low L σ hσ]; norm_num
  have hh : cz L σ 8193 < 32 := by rw [cz_high L σ hσ]; norm_num
  have k : ∀ (m : ℕ) (hm : m < 15) (b : Bis Ideal), At i L σ b (bracket (cz L σ) m) → At i L σ (b.step q) (bracket (cz L σ) (m + 1)) := by
    intro m hm b h
    obtain ⟨i1, i2, i3, -⟩ := bracket_inv (cz L σ) hl hh m (by omega)
    exact step_at i L σ hσ q hq b _ h i1 i2 i3
  exact k _ (by omega) _ (k _ (by omega) _ (k _ (by omega) _ h))

end lane

end Cert.Lane

end
-- ==== Proof.LaneRow.lean ====
/- The kernel's sums of a lane: the hardest negatives', the chosen random negatives', and the row's value. -/
module

public import proofs.«01_k».proof.Proof.Lane

@[expose] public section

noncomputable section

namespace Cert.LaneRow

open Cert.KernelIdeal Cert.KernelIdeal.Gen Idealize.ShloMosaic Idealize.SL.Sem Cert.Chain Finset Cert.Select Cert.Reals Cert.Row Cert.Lane

/-- Any number of least members can be found. -/
theorem exists_least {ι : Type} [Fintype ι] [DecidableEq ι] (v : ι → ℝ) (n : ℕ) (hn : n ≤ Fintype.card ι) :
    ∃ T : Finset ι, T.card = n ∧ Least v T := by
  induction n with
  | zero => exact ⟨∅, rfl, fun a ha => absurd ha (notMem_empty a)⟩
  | succ n ih =>
    obtain ⟨T, hT, hl⟩ := ih (by omega)
    have hne : (univ \ T).Nonempty := by
      rw [← card_pos, card_sdiff_of_subset (subset_univ T), hT, card_univ]; omega
    obtain ⟨m, hm, hmin⟩ := exists_min_image (univ \ T) v hne
    have hmT : m ∉ T := (mem_sdiff.mp hm).2
    refine ⟨insert m T, by rw [card_insert_of_notMem hmT, hT], ?_⟩
    intro a ha b hb
    have hbT : b ∉ T := fun h => hb (mem_insert_of_mem h)
    rcases mem_insert.mp ha with rfl | h
    · exact hmin b (mem_sdiff.mpr ⟨mem_univ _, hbT⟩)
    · exact hl a h b hbT

/-- Slot `a` of label `L`. -/
def slot (L : Fin 16) (a : Fin 32) : Fin 512 := ⟨a.val * 16 + L.val, by omega⟩

/-- Different places of a class hold different slots. -/
theorem slot_inj (L : Fin 16) : Function.Injective (slot L) := by
  intro a b h
  have := congrArg Fin.val h
  simp only [slot] at this
  exact Fin.ext (by omega)

/-- A class's slots are its positives. -/
theorem slot_pos (L : Fin 16) (a : Fin 32) : slot L a ∈ pos L := by
  rw [mem_pos]; simp only [slot]; omega

/-- Every positive has a place. -/
theorem pos_slot (L : Fin 16) (j : Fin 512) (h : j ∈ pos L) : ∃ a, slot L a = j := by
  rw [mem_pos] at h
  exact ⟨⟨j.val / 16, by omega⟩, Fin.ext (by simp only [slot]; omega)⟩

/-- A class has 32 slots. -/
theorem card_pos32 (L : Fin 16) : (pos L).card = 32 := by
  have : pos L = univ.image (slot L) := by
    ext j
    rw [mem_image]
    exact ⟨fun h => (pos_slot L j h).imp fun a ha => ⟨mem_univ _, ha⟩, fun ⟨a, _, ha⟩ => ha ▸ slot_pos L a⟩
  rw [this, card_image_of_injective _ (slot_inj L)]
  simp

/-- The other slots are 480. -/
theorem card_neg (L : Fin 16) : (univ \ pos L).card = 480 := by
  rw [card_sdiff_of_subset (subset_univ _), card_pos32, card_univ]; simp

/-- The thirty-two hardest of the slots not positive. -/
theorem exists_hard (L : Fin 16) (σ : Fin 512 → ℝ) (hσ : ∀ j, -1 ≤ σ j ∧ σ j ≤ 1) :
    ∃ B : Finset (Fin 512), B.card = 32 ∧ Least (fun j => - (if j ∈ pos L then (-10000 : ℝ) else σ j)) B ∧ (∀ j ∈ B, j ∉ pos L)
      ∧ (∀ a ∈ B, ∀ b, b ∉ pos L → b ∉ B → σ b ≤ σ a) := by
  obtain ⟨B, hB, hl⟩ := exists_least (fun j : Fin 512 => - (if j ∈ pos L then (-10000 : ℝ) else σ j)) 32 (by simp)
  have hP : ∀ j ∈ B, j ∉ pos L := by
    intro j hj hjp
    have hsub : univ \ pos L ⊆ B := by
      intro b hb
      by_contra hbB
      have := hl j hj b hbB
      simp only [if_pos hjp, if_neg (mem_sdiff.mp hb).2] at this
      linarith [(hσ b).1]
    have := card_le_card hsub
    rw [card_neg, hB] at this
    omega
  refine ⟨B, hB, hl, hP, fun a ha b hb hbB => ?_⟩
  have := hl a ha b hbB
  simp only [if_neg (hP a ha), if_neg hb] at this
  linarith

section lane
variable (i : Fin 512) (L : Fin 16) (σ : Fin 512 → ℝ) (hσ : ∀ j, -1 ≤ σ j ∧ σ j ≤ 1)

/-- Slots of one bucket that is only partly among the thirty-two hardest have one similarity. -/
def Split : Prop := ∀ a b : Fin 512, a ∉ pos L → b ∉ pos L → ⌊σ a * 8192⌋ = ⌊σ b * 8192⌋ →
  (univ.filter fun k => k ∉ pos L ∧ ⌊σ a * 8192⌋ < ⌊σ k * 8192⌋).card < 32 →
  32 < (univ.filter fun k => k ∉ pos L ∧ ⌊σ a * 8192⌋ ≤ ⌊σ k * 8192⌋).card → σ a = σ b

include hσ

/-- The found bucket is a negative's. -/
theorem found_ge (l : ℤ) (h : cz L σ (l + 1) < 32) : -8192 ≤ l := by
  by_contra hl
  have hsub : univ \ pos L ⊆ univ.filter fun j => l + 1 ≤ qz L σ j := by
    intro j hj
    rw [mem_filter]
    refine ⟨mem_univ _, ?_⟩
    unfold qz
    rw [if_neg (mem_sdiff.mp hj).2]
    have := floor_le (σ j) (hσ j)
    omega
  have := card_le_card hsub
  rw [card_neg] at this
  unfold cz at h
  omega

/-- The bucket formula is the sum over the thirty-two hardest. -/
theorem hard_sum (hs : Split L σ) (l : ℤ) (h1 : 32 ≤ cz L σ l) (h2 : cz L σ (l + 1) < 32) {B : Finset (Fin 512)} (hB : B.card = 32)
    (hl : Least (fun j => - (if j ∈ pos L then (-10000 : ℝ) else σ j)) B) (hP : ∀ j ∈ B, j ∉ pos L) :
    (∑ j, if l < qz L σ j then Real.exp (σ j * iT) else 0) + (32 - (cz L σ (l + 1) : ℝ))
      * (((∑ j, if l ≤ qz L σ j then Real.exp (σ j * iT) else 0) - (∑ j, if l < qz L σ j then Real.exp (σ j * iT) else 0))
        / max ((cz L σ l : ℝ) - (cz L σ (l + 1) : ℝ)) 1) = expSum σ B := by
  have hl0 := found_ge L σ hσ l h2
  have e1 : ∀ j, l ≤ qz L σ j → j ∉ pos L := by
    intro j hj hp
    unfold qz at hj
    rw [if_pos hp] at hj
    omega
  have ec : cz L σ (l + 1) = (univ.filter fun a => l < qz L σ a).card := rfl
  have eq1 : ∀ k, l < qz L σ k ↔ k ∉ pos L ∧ l < ⌊σ k * 8192⌋ := by
    intro k
    by_cases hk : k ∈ pos L
    · unfold qz; rw [if_pos hk]
      exact ⟨fun h => by omega, fun h => absurd hk h.1⟩
    · unfold qz; rw [if_neg hk]
      exact ⟨fun h => ⟨hk, h⟩, fun h => h.2⟩
  have eq2 : ∀ k, l ≤ qz L σ k ↔ k ∉ pos L ∧ l ≤ ⌊σ k * 8192⌋ := by
    intro k
    by_cases hk : k ∈ pos L
    · unfold qz; rw [if_pos hk]
      exact ⟨fun h => by omega, fun h => absurd hk h.1⟩
    · unfold qz; rw [if_neg hk]
      exact ⟨fun h => ⟨hk, h⟩, fun h => h.2⟩
  have main := bucket_sum (fun j => if j ∈ pos L then (-10000 : ℝ) else σ j) (qz L σ) (fun x => Real.exp (x * iT)) l
    (by
      intro a b hab
      by_cases ha : a ∈ pos L
      · have : qz L σ a = -16384 := if_pos ha
        have := qz_bound L σ hσ b
        omega
      · by_cases hb : b ∈ pos L
        · simp only [if_pos hb, if_neg ha]; linarith [(hσ a).1]
        · simp only [if_neg hb, if_neg ha]
          unfold qz at hab
          rw [if_neg ha, if_neg hb] at hab
          by_contra hlt
          have : ⌊σ a * 8192⌋ ≤ ⌊σ b * 8192⌋ := Int.floor_le_floor (by linarith)
          omega)
    (ec ▸ h2) h1
    (by
      intro h a b ha hb
      have ha' := e1 a ha.ge
      have hb' := e1 b hb.ge
      simp only [if_neg ha', if_neg hb']
      unfold qz at ha hb
      rw [if_neg ha'] at ha
      rw [if_neg hb'] at hb
      apply hs a b ha' hb' (ha.trans hb.symm)
      · rw [ha]; simp only [← eq1]; exact ec ▸ h2
      · rw [ha]; simp only [← eq2]; exact h)
    hB hl
  have r1 : (∑ j, if l < qz L σ j then Real.exp ((if j ∈ pos L then (-10000 : ℝ) else σ j) * iT) else 0)
      = ∑ j, if l < qz L σ j then Real.exp (σ j * iT) else 0 := by
    refine sum_congr rfl fun j _ => ?_
    by_cases h : l < qz L σ j
    · rw [if_pos h, if_pos h, if_neg (e1 j h.le)]
    · rw [if_neg h, if_neg h]
  have r2 : (∑ j, if l ≤ qz L σ j then Real.exp ((if j ∈ pos L then (-10000 : ℝ) else σ j) * iT) else 0)
      = ∑ j, if l ≤ qz L σ j then Real.exp (σ j * iT) else 0 := by
    refine sum_congr rfl fun j _ => ?_
    by_cases h : l ≤ qz L σ j
    · rw [if_pos h, if_pos h, if_neg (e1 j h)]
    · rw [if_neg h, if_neg h]
  have r3 : ∑ j ∈ B, Real.exp ((if j ∈ pos L then (-10000 : ℝ) else σ j) * iT) = expSum σ B :=
    sum_congr rfl fun j hj => by rw [if_neg (hP j hj)]
  rw [r1, r2, r3] at main
  rw [← main]
  rfl

end lane

section sums
variable (i : Fin 512) (L : Fin 16) (σ : Fin 512 → ℝ) (hσ : ∀ j, -1 ≤ σ j ∧ σ j ≤ 1)
variable (x0 x1 : Vec Ideal S512x512 .f32) (x2 : Vec Ideal S1x512 .f32) (x3 : Vec Ideal S1x512 .i32) (x4 : Vec Ideal S512x512 .i16) (x5 : Vec Ideal S16x512 .i32)
variable (hS : ∀ j, k0_pay2 (F := Ideal) x0 x1 x2 (ix2 j i) = (σ j : EReal)) (hL : x3 (ix2 0 i) = BitVec.ofNat 32 L.val)

include hσ hS hL

/-- The kernel's bucket of a slot, as an integer. -/
theorem qs_apply (j : Fin 512) : (qs (F := Ideal) x0 x1 x2 x3 (ix2 j i)).toInt = qz L σ j :=
  pay9_apply _ _ i L σ hσ hS (pay4_apply x3 i L hL) j

omit hL hσ in
/-- The kernel's exponential of a similarity. -/
theorem exs_apply (j : Fin 512) : exs (F := Ideal) x0 x1 x2 (ix2 j i) = ((Real.exp (σ j * iT) : ℝ) : EReal) := by
  show k0_pay7 (F := Ideal) x0 x1 x2 (ix2 j i) = _
  unfold k0_pay7
  pointwise
  rw [hS, named_inv_T, ← EReal.coe_mul, Ideal.exp_coe]

/-- The kernel's bisection ends at the bracket after fifteen steps. -/
theorem bis_at : At i L σ (bis (F := Ideal) x0 x1 x2 x3) (bracket (cz L σ) 15) := by
  have hq := qs_apply i L σ hσ x0 x1 x2 x3 hS hL
  unfold bis
  exact step3_at i L σ hσ _ hq 12 (by norm_num) _ (step3_at i L σ hσ _ hq 9 (by norm_num) _ (step3_at i L σ hσ _ hq 6 (by norm_num) _
    (step3_at i L σ hσ _ hq 3 (by norm_num) _ (step3_at i L σ hσ _ hq 0 (by norm_num) _ (init_at i L σ hσ)))))

/-- The lane of the hardest negatives' sum. -/
theorem nhs_apply (hs : Split L σ) {B : Finset (Fin 512)} (hB : B.card = 32)
    (hl : Least (fun j => - (if j ∈ pos L then (-10000 : ℝ) else σ j)) B) (hP : ∀ j ∈ B, j ∉ pos L) :
    nhs (F := Ideal) x0 x1 x2 x3 (ix2 0 i) = ((expSum σ B : ℝ) : EReal) := by
  have hq := qs_apply i L σ hσ x0 x1 x2 x3 hS hL
  have hx := exs_apply i σ x0 x1 x2 hS
  obtain ⟨a1, a2, a3, a4⟩ := bis_at i L σ hσ x0 x1 x2 x3 hS hL
  obtain ⟨b1, b2, b3, b4, b5⟩ := bracket_end (cz L σ) (by rw [cz_low L σ hσ]; norm_num) (by rw [cz_high L σ hσ]; norm_num)
  rw [b1] at a4
  have g1 : sumV .sgt (exs (F := Ideal) x0 x1 x2) (qs (F := Ideal) x0 x1 x2 x3) (bis (F := Ideal) x0 x1 x2 x3).lo (ix2 0 i)
      = ((∑ j, (if (bracket (cz L σ) 15).1 < qz L σ j then Real.exp (σ j * iT) else 0) : ℝ) : EReal) := by
    pointwise [sumV]
    rw [coe_sum]
    refine sum_congr rfl fun j _ => ?_
    rw [cmp_gt i L σ hσ _ hq _ (by omega) (by omega) j, hx j, a1]
    by_cases h : (bracket (cz L σ) 15).1 < qz L σ j
    · rw [if_pos h, if_pos h]; rfl
    · rw [if_neg h, if_neg h]; rfl
  have g2 : sumV .sge (exs (F := Ideal) x0 x1 x2) (qs (F := Ideal) x0 x1 x2 x3) (bis (F := Ideal) x0 x1 x2 x3).lo (ix2 0 i)
      = ((∑ j, (if (bracket (cz L σ) 15).1 ≤ qz L σ j then Real.exp (σ j * iT) else 0) : ℝ) : EReal) := by
    pointwise [sumV]
    rw [coe_sum]
    refine sum_congr rfl fun j _ => ?_
    rw [cmp_ge i L σ hσ _ hq _ (by omega) (by omega) j, hx j, a1]
    by_cases h : (bracket (cz L σ) 15).1 ≤ qz L σ j
    · rw [if_pos h, if_pos h]; rfl
    · rw [if_neg h, if_neg h]; rfl
  rw [← hard_sum L σ hσ hs _ b4 b5 hB hl hP]
  unfold nhs
  generalize sumV .sgt (exs (F := Ideal) x0 x1 x2) (qs (F := Ideal) x0 x1 x2 x3) (bis (F := Ideal) x0 x1 x2 x3).lo = V1 at *
  generalize sumV .sge (exs (F := Ideal) x0 x1 x2) (qs (F := Ideal) x0 x1 x2 x3) (bis (F := Ideal) x0 x1 x2 x3).lo = V2 at *
  pointwise [k0_pay99]
  rw [g1, g2, a3, a4, c32]
  rw [← EReal.coe_one, ← EReal.coe_sub, ← EReal.coe_sub, ← EReal.coe_sub, ← coe_max, div_coe _ _ (by positivity), ← EReal.coe_mul, ← EReal.coe_add]

omit hσ in
/-- The lane of the chosen random negatives' sum. -/
theorem nrs_apply : nrs (F := Ideal) x0 x1 x2 x3 x4 x5 (ix2 0 i)
    = ((expSum σ (univ.filter fun j => j ∉ pos L ∧ BitVec.sle (BitVec.setWidth 16 (x5 (ix2 L i))) (x4 (ix2 j i)) = true) : ℝ) : EReal) := by
  have hx := exs_apply i σ x0 x1 x2 hS
  have hp := pay4_apply x3 i L hL
  unfold nrs
  generalize exs (F := Ideal) x0 x1 x2 = V1 at *
  generalize k0_pay4 (F := Ideal) x3 = V2 at *
  have h3 : k0_pay3 (F := Ideal) x3 (ix2 0 i) = BitVec.ofNat 32 L.val := by
    pointwise [k0_pay3]
    exact hL
  generalize k0_pay3 (F := Ideal) x3 = V3 at *
  pointwise [k0_pay8]
  rw [h3, fold_pick L (fun x => x5 (ix2 x i))]
  · unfold expSum
    rw [sum_filter, coe_sum]
    refine sum_congr rfl fun j _ => ?_
    rw [hp j, hx j]
    show Scalar.select (IntOp.andi _ (BitVec.ofBool (BitVec.sle _ _))) _ _ = _
    by_cases h1 : j ∈ pos L <;> cases h2 : BitVec.sle (BitVec.setWidth 16 (x5 (ix2 L i))) (x4 (ix2 j i)) <;> simp [h1, h2] <;> rfl
  · intro x
    have : IntOp.cmpi CmpIPredicate.eq (BitVec.ofNat 32 x.val) (BitVec.ofNat 32 L.val) = if x = L then 1#1 else 0#1 := by
      show BitVec.ofBool (_ == _) = _
      by_cases h : x = L
      · rw [if_pos h, h]; simp
      · rw [if_neg h, beq_eq_false_iff_ne.mpr]
        · rfl
        · intro e
          have := congrArg BitVec.toNat e
          simp only [BitVec.toNat_ofNat] at this
          exact h (Fin.ext (by omega))
    rw [this]
    by_cases h : x = L
    · rw [if_pos h, if_pos h]; rfl
    · rw [if_neg h, if_neg h]; rfl

end sums

end Cert.LaneRow

end
-- ==== Proof.KernelRow.lean ====
/- The extraction of a lane's eight least positives, and the kernel's value from its rows' values. -/
module

public import proofs.«01_k».proof.Proof.LaneRow

@[expose] public section

noncomputable section

namespace Cert.KernelRow

open Cert.KernelIdeal Cert.KernelIdeal.Gen Idealize.ShloMosaic Idealize.SL.Sem Cert.Chain Finset Cert.Select Cert.Reals Cert.Row Cert.Lane Cert.LaneRow

/-- The lane of an extraction's state holds the invariant after `n` rounds. -/
def Holds (i : Fin 512) (v : Fin 32 → ℝ) (G : ℝ → ℝ) (n : ℕ) (e : Ext Ideal) : Prop :=
  ∃ (w : Fin 32 → ℝ) (s acc : ℝ), Inv v G n w s acc ∧ (∀ a, e.vals (ix2 a i) = (w a : EReal)) ∧ e.slots (ix2 0 i) = (s : EReal)
    ∧ e.acc (ix2 0 i) = (acc : EReal)

/-- The cost of a capped value. -/
def capped (h r x : ℝ) : ℝ := cost h r (min x 10)

/-- One round keeps the invariant of the eight least positives. -/
theorem round_holds (i : Fin 512) (v : Fin 32 → ℝ) (hv : ∀ a, v a ≤ 1) (h r : ℝ) (h0 : 0 ≤ h) (r0 : 0 ≤ r)
    (nr nh : FVec Ideal S1x512 .f32) (hnr : nr (ix2 0 i) = (r : EReal)) (hnh : nh (ix2 0 i) = (h : EReal)) (n : ℕ) (e : Ext Ideal)
    (H : Holds i v (capped h r) n e) : Holds i v (capped h r) (n + 1) (e.round nr nh) := by
  obtain ⟨w, s, acc, hI, hw, hs, ha⟩ := H
  obtain ⟨m, hm, hle, hex⟩ := fold_min (fun x => e.vals (ix2 x i)) w hw
  have hcount : ∑ x, FloatOps.sitofp (F := Ideal) .f32 (BitVec.setWidth 32 (BitVec.ofBool (decide (e.vals (ix2 x i) = ((m : ℝ) : EReal)))))
      = (((univ.filter fun a => w a = m).card : ℝ) : EReal) := by
    rw [← sum_count]
    refine sum_congr rfl fun a _ => ?_
    rw [sitofp_bool, hw a]
    simp only [EReal.coe_eq_coe_iff, decide_eq_true_eq]
  refine ⟨_, _, _, inv_step v (capped h r) hv n w s acc m hI hle hex, fun a => ?_, ?_, ?_⟩
  · pointwise [Ext.round, minV, eqV]
    rw [cinf, hm, c1e4, hw a]
    by_cases hh : w a = m
    · rw [if_pos hh, if_pos (by rw [hh])]
    · rw [if_neg hh, if_neg (by rw [EReal.coe_eq_coe_iff]; exact hh)]
  · pointwise [Ext.round, minV, eqV, mulV]
    rw [cinf, hm, hcount, hs, ← EReal.coe_sub]
  · pointwise [Ext.round, minV, eqV, mulV, expV, costV]
    rw [cinf, hm, hcount, hs, ha, c10, named_inv_T, named_two_over_T, hnr, hnh, ← EReal.coe_zero, ← coe_max, ← coe_min, ← coe_min,
      ← EReal.coe_mul, ← EReal.coe_mul, Ideal.exp_coe, ← EReal.coe_add, ← EReal.coe_add, log_pos _ (by positivity), log_pos _ (by positivity),
      ← EReal.coe_add, ← EReal.coe_sub, ← EReal.coe_mul, ← EReal.coe_add]
    rfl

/-- The one-hot labels of a lane. -/
theorem pay5_apply (x3 : IVec S1x512 32) (i : Fin 512) (x : Fin 16) :
    k0_pay5 (F := Ideal) x3 (ix2 x i) = (((if BitVec.ofNat 32 x.val = x3 (ix2 0 i) then 1 else 0 : ℝ)) : EReal) := by
  pointwise [k0_pay5, k0_pay3]
  refine (sitofp_bool _).trans ?_
  simp only [beq_iff_eq]

/-- Different classes have different label words. -/
theorem label_inj (x L : Fin 16) : BitVec.ofNat 32 x.val = BitVec.ofNat 32 L.val ↔ x = L := by
  constructor
  · intro e
    have := congrArg BitVec.toNat e
    simp only [BitVec.toNat_ofNat] at this
    exact Fin.ext (by omega)
  · rintro rfl; rfl

/-- The sum of a lane's one-hot labels: one for a label from 0 to 15, zero otherwise. -/
theorem vmask_apply (x3 : IVec S1x512 32) (i : Fin 512) :
    k0_pay6 (F := Ideal) x3 (ix2 0 i) = (((if ∃ L : Fin 16, x3 (ix2 0 i) = BitVec.ofNat 32 L.val then 1 else 0 : ℝ)) : EReal) := by
  pointwise [k0_pay6]
  have hsum : ∑ x, k0_pay5 (F := Ideal) x3 (ix2 x i)
      = (((if ∃ L : Fin 16, x3 (ix2 0 i) = BitVec.ofNat 32 L.val then 1 else 0 : ℝ)) : EReal) := by
    rw [sum_congr rfl fun x _ => pay5_apply x3 i x, ← coe_sum]
    congr 1
    by_cases h : ∃ L : Fin 16, x3 (ix2 0 i) = BitVec.ofNat 32 L.val
    · rw [if_pos h]
      obtain ⟨L, hL⟩ := h
      rw [hL]
      simp only [label_inj]
      simp
    · rw [if_neg h]
      refine sum_eq_zero fun x _ => if_neg fun e => h ⟨x, e.symm⟩
  rw [hsum, c8, c32, c512]
  by_cases h : ∃ L : Fin 16, x3 (ix2 0 i) = BitVec.ofNat 32 L.val
  · simp only [if_pos h]
    rw [← EReal.coe_mul, ← EReal.coe_sub, decide_eq_true (by rw [EReal.coe_le_coe_iff]; norm_num), decide_eq_true (by rw [EReal.coe_le_coe_iff]; norm_num)]
    exact (sitofp_bool true).trans (by simp)
  · simp only [if_neg h]
    rw [← EReal.coe_mul, ← EReal.coe_sub, decide_eq_false (by rw [EReal.coe_le_coe_iff]; norm_num), decide_eq_true (by rw [EReal.coe_le_coe_iff]; norm_num)]
    exact (sitofp_bool false).trans (by simp)

section lane
variable (i : Fin 512) (L : Fin 16) (σ : Fin 512 → ℝ) (hσ : ∀ j, -1 ≤ σ j ∧ σ j ≤ 1)
variable (x0 x1 : Vec Ideal S512x512 .f32) (x2 : Vec Ideal S1x512 .f32) (x3 : Vec Ideal S1x512 .i32) (x4 : Vec Ideal S512x512 .i16) (x5 : Vec Ideal S16x512 .i32)
variable (hS : ∀ j, k0_pay2 (F := Ideal) x0 x1 x2 (ix2 j i) = (σ j : EReal)) (hL : x3 (ix2 0 i) = BitVec.ofNat 32 L.val)
include hσ hS hL

omit hσ in
/-- The invariant holds before the first round. -/
theorem init_holds (G : ℝ → ℝ) : Holds i (fun a => σ (slot L a)) G 0 (Ext.init (k0_pay2 (F := Ideal) x0 x1 x2) (k0_pay5 x3)) := by
  refine ⟨_, _, _, inv_zero _ _, fun a => ?_, ?_, ?_⟩
  · show k0_pay100 (k0_pay2 (F := Ideal) x0 x1 x2) (k0_pay5 x3) (ix2 a i) = _
    have h5 := pay5_apply x3 i
    generalize k0_pay2 (F := Ideal) x0 x1 x2 = V1 at *
    generalize k0_pay5 (F := Ideal) x3 = V2 at *
    pointwise [k0_pay100]
    rw [sum_eq_single L]
    · rw [h5, hL, if_pos rfl, EReal.coe_one, mul_one]
      exact hS (slot L a)
    · intro x _ hx
      rw [h5, hL, if_neg (fun e => hx ((label_inj x L).mp e)), EReal.coe_zero, mul_zero]
    · intro hh; exact absurd (mem_univ _) hh
  · show k0_pay101 (F := Ideal) (ix2 0 i) = _
    pointwise [k0_pay101]
    exact c8
  · show broadcast S1x512 (Scalar.ofBits (F := Ideal) .f32 0x00000000#32) (ix2 0 i) = _
    pointwise
    simp

/-- A valid lane's running sum ends at its row's value. -/
theorem acc_row (hs : Split L σ) : ∃ y : ℝ,
    Row σ (pos L) (univ.filter fun j => j ∉ pos L ∧ BitVec.sle (BitVec.setWidth 16 (x5 (ix2 L i))) (x4 (ix2 j i)) = true) y
      ∧ (ext (F := Ideal) x0 x1 x2 x3 x4 x5 8).acc (ix2 0 i) = (y : EReal) := by
  obtain ⟨B, hB, hl, hP, hg⟩ := exists_hard L σ hσ
  have hnh := nhs_apply i L σ hσ x0 x1 x2 x3 hS hL hs hB hl hP
  have hnr := nrs_apply i L σ x0 x1 x2 x3 x4 x5 hS hL
  generalize univ.filter (fun j => j ∉ pos L ∧ BitVec.sle (BitVec.setWidth 16 (x5 (ix2 L i))) (x4 (ix2 j i)) = true) = C at *
  have hB0 : 0 ≤ expSum σ B := sum_nonneg fun j _ => (Real.exp_pos _).le
  have hC0 : 0 ≤ expSum σ C := sum_nonneg fun j _ => (Real.exp_pos _).le
  have all : ∀ n, Holds i (fun a => σ (slot L a)) (capped (expSum σ B) (expSum σ C)) n (ext (F := Ideal) x0 x1 x2 x3 x4 x5 n) := by
    intro n
    induction n with
    | zero => exact init_holds i L σ x0 x1 x2 x3 hS hL _
    | succ n ih => exact round_holds i _ (fun a => (hσ _).2) _ _ hB0 hC0 _ _ hnr hnh n _ ih
  obtain ⟨w, s, acc, hI, -, -, ha⟩ := all 8
  obtain ⟨T, hT, hTl, rfl⟩ := inv_eight _ _ w s acc hI
  refine ⟨_, ⟨T.image (slot L), B, ?_, hB, ?_, hP, ?_, hg, rfl⟩, ?_⟩
  · rw [card_image_of_injective _ (slot_inj L), hT]
  · intro j hj
    obtain ⟨a, -, rfl⟩ := mem_image.mp hj
    exact slot_pos L a
  · intro j hj b hb hbA
    obtain ⟨a, haT, rfl⟩ := mem_image.mp hj
    obtain ⟨c, rfl⟩ := pos_slot L b hb
    exact hTl a haT c fun hc => hbA (mem_image_of_mem _ hc)
  · rw [ha, sum_image fun a _ b _ h => slot_inj L h]
    congr 1
    refine sum_congr rfl fun a _ => ?_
    unfold capped
    rw [min_eq_left (by linarith [(hσ (slot L a)).2])]

end lane

/-- The loss from the valid rows' values. -/
def total (V : Fin 512 → Prop) [DecidablePred V] (Y : Fin 512 → ℝ) : EReal :=
  if 0 < ∑ i, (((if V i then 1 else 0 : ℝ)) : EReal) then
    Ideal.div (∑ i, (((if V i then Y i else 0 : ℝ)) : EReal)) (max ((∑ i, (((if V i then 1 else 0 : ℝ)) : EReal)) * ((16 : ℝ) : EReal)) 1)
  else 0

/-- The kernel's value, given its valid rows' values. -/
theorem kOut_total (x0 x1 : Vec Ideal S512x512 .f32) (x2 : Vec Ideal S1x512 .f32) (x3 : Vec Ideal S1x512 .i32) (x4 : Vec Ideal S512x512 .i16) (x5 : Vec Ideal S16x512 .i32)
    (Y : Fin 512 → ℝ)
    (hY : ∀ i, (∃ L : Fin 16, x3 (ix2 0 i) = BitVec.ofNat 32 L.val) → (ext (F := Ideal) x0 x1 x2 x3 x4 x5 8).acc (ix2 0 i) = (Y i : EReal)) :
    kOut (F := Ideal) x0 x1 x2 x3 x4 x5 (ix2 0 0) = total (fun i => ∃ L : Fin 16, x3 (ix2 0 i) = BitVec.ofNat 32 L.val) Y := by
  unfold kOut
  have hv := vmask_apply x3
  generalize (ext (F := Ideal) x0 x1 x2 x3 x4 x5 8).acc = V1 at *
  generalize k0_pay6 (F := Ideal) x3 = V2 at *
  pointwise [tailV, k0_pay152, k0_pay150]
  unfold total
  have e : ∀ i, V1 (ix2 0 i) * V2 (ix2 0 i) = (((if ∃ L : Fin 16, x3 (ix2 0 i) = BitVec.ofNat 32 L.val then Y i else 0 : ℝ)) : EReal) := by
    intro i
    rw [hv i]
    by_cases h : ∃ L : Fin 16, x3 (ix2 0 i) = BitVec.ofNat 32 L.val
    · rw [if_pos h, if_pos h, hY i h, EReal.coe_one, mul_one]
    · rw [if_neg h, if_neg h, EReal.coe_zero, mul_zero]
  rw [sum_congr rfl fun i _ => e i]
  simp only [hv, c16]

end Cert.KernelRow

end
-- ==== Proof.PreDecode.lean ====
/- What the precondition says, read at an index. -/
module

public import proofs.«01_k».proof.Pre_resolved
public import proofs.«01_k».proof.Proof.KernelRow
public import Idealize.ShloMosaic.Lib.Pointwise
public import Idealize.ShloMosaic.Lib.ReduceAll

@[expose] public section

noncomputable section

namespace Cert.PreDecode

open Cert.Pre_resolved Cert.Pre_resolved.Facts Idealize.ShloMosaic Finset Cert.Reals Cert.Lane Cert.LaneRow

variable [Cert.Pre_resolved.Facts]

/-- A conjunction of bits. -/
theorem and_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- A disjunction of bits. -/
theorem or_one (a b : BitVec 1) : IntOp.ori a b = 1#1 ↔ a = 1#1 ∨ b = 1#1 := by
  rcases BitVec.eq_zero_or_eq_one a with rfl | rfl <;> rcases BitVec.eq_zero_or_eq_one b with rfl | rfl <;> decide

/-- A complement of a bit. -/
theorem not_one (a : BitVec 1) : ~~~a = 1#1 ↔ ¬ a = 1#1 := by
  rcases BitVec.eq_zero_or_eq_one a with rfl | rfl <;> decide

/-- A truth value as a bit. -/
theorem bool_one (b : Bool) : BitVec.ofBool b = 1#1 ↔ b = true := by cases b <;> decide

/-- A bit as a number. -/
theorem bit_num (a : BitVec 1) : (FloatOps.uitofp (F := Ideal) .f32 a : EReal) = (((if a = 1#1 then 1 else 0 : ℝ)) : EReal) := by
  rcases BitVec.eq_zero_or_eq_one a with rfl | rfl
  · exact (uitofp_bool false).trans (by simp)
  · exact (uitofp_bool true).trans (by simp)

/-- A sum of bits as numbers is how many are set. -/
theorem bit_sum {n : ℕ} (a : Fin n → BitVec 1) : (∑ x, FloatOps.uitofp (F := Ideal) .f32 (a x) : EReal)
    = (((univ.filter fun x => a x = 1#1).card : ℝ) : EReal) := by
  rw [sum_congr rfl fun x _ => bit_num (a x), sum_count]

/-- Words compared for being equal. -/
theorem eq_one {w : ℕ} (a b : BitVec w) : IntOp.cmpi .eq a b = 1#1 ↔ a = b := by
  show BitVec.ofBool (a == b) = 1#1 ↔ _
  rw [bool_one, beq_iff_eq]

/-- Words compared for being unequal. -/
theorem ne_one {w : ℕ} (a b : BitVec w) : IntOp.cmpi .ne a b = 1#1 ↔ a ≠ b := by
  show BitVec.ofBool (a != b) = 1#1 ↔ _
  rw [bool_one, bne_iff_ne]

/-- The scalar shape has one index. -/
instance : Subsingleton S_.Idx := ⟨fun a b => funext fun q => q.elim0⟩

/-- The last conjunct: where the mask holds the two tables agree. -/
theorem part6 (v77 : IVec S_ 1) (v119 : IVec S512x512x512 1) (v121 : FVec Ideal S512x1x512 .f32) (v122 : FVec Ideal S512x512x512 .f32)
    (h : fn_part6 (F := Ideal) v77 v119 v121 v122 ix0 = 1#1) :
    v77 ix0 = 1#1 ∧ ∀ i j k, v119 (ix3 i j k) = 1#1 ∨ (v122 (ix3 i j k) : EReal) = v121 (ix3 i 0 k) := by
  obtain ⟨h1, h2⟩ := (and_one _ _).1 h
  refine ⟨h1, fun i j k => ?_⟩
  have := Host.reduce_andi_all _ _ _ _ _ h2 (ix3 i j k)
  pointwise [] at this
  rw [or_one, bool_one, decide_eq_true_iff] at this
  exact this

/-- The similarities of the members of a split bucket are equal. -/
theorem part5 (v23 : IVec S512 1) (v28 : IVec S512x512 1) (v77 : IVec S_ 1) (v81 v94 : FVec Ideal S512x512 .f32) (v100 v101 : IVec S512x512x512 1)
    (h : fn_part5 (F := Ideal) v23 v28 v77 v81 v94 v100 v101 ix0 = 1#1) :
    v77 ix0 = 1#1 ∧ ∀ i j k, v23 (ix1 i) = 1#1 → v28 (ix2 i j) = 1#1 → v28 (ix2 i k) = 1#1
      → (v94 (ix2 i j) : EReal) < ((32 : ℝ) : EReal) → (v94 (ix2 i k) : EReal) < ((32 : ℝ) : EReal)
      → ((32 : ℝ) : EReal) < (∑ x, FloatOps.uitofp (F := Ideal) .f32 (IntOp.andi (v101 (ix3 i j x)) (v100 (ix3 i j x))) : EReal)
      → ((32 : ℝ) : EReal) < (∑ x, FloatOps.uitofp (F := Ideal) .f32 (IntOp.andi (v101 (ix3 i k x)) (v100 (ix3 i k x))) : EReal)
      → (v81 (ix2 i j) : EReal) = v81 (ix2 i k) := by
  unfold fn_part5 at h
  obtain ⟨h1, h2⟩ := part6 _ _ _ _ h
  refine ⟨h1, fun i j k a1 a2 a3 a4 a5 a6 a7 => ?_⟩
  have := h2 i j k
  rw [← c32] at a4 a5 a6 a7
  pointwise [] at this
  refine this.resolve_left fun hn => (not_one _).1 hn ?_
  simp only [and_one, bool_one, decide_eq_true_iff]
  exact ⟨⟨⟨⟨a1, a2⟩, a4⟩, a6⟩, ⟨⟨a1, a3⟩, a5⟩, a7⟩

/-- A row of a label in range splits no bucket of unequal members. -/
theorem part4 (v12 : FVec Ideal S512x512 .f32) (v23 : IVec S512 1) (v28 : IVec S512x512 1) (v77 : IVec S_ 1) (v79 : FVec Ideal S512x512 .f32)
    (h : fn_part4 (F := Ideal) v12 v23 v28 v77 v79 ix0 = 1#1) :
    v77 ix0 = 1#1 ∧ ∀ (i : Fin 512) (L : Fin 16) (σ : Fin 512 → ℝ), v23 (ix1 i) = 1#1 → (∀ j, v28 (ix2 i j) = 1#1 ↔ j ∉ pos L)
      → (∀ j, (∑ x, Ideal.div (v12 (ix2 i x)) (v79 (ix2 i x)) * Ideal.div (v12 (ix2 j x)) (v79 (ix2 j x)) : EReal) = (σ j : EReal)) → Split L σ := by
  unfold fn_part4 at h
  obtain ⟨v81, e81⟩ : ∃ s : FVec Ideal S512x512 .f32, s = Host.dotGeneral dot_S512x512_S512x512_S512x512_1_1_0_0_n_n none (Host.divf v12 v79) (Host.divf v12 v79) := ⟨_, rfl⟩
  simp only [← e81] at h
  obtain ⟨h1, h2⟩ := part5 _ _ _ _ _ _ _ h
  refine ⟨h1, fun i L σ a1 a2 a3 a b ha hb hab hlt hgt => ?_⟩
  have h3 : ∀ j, v81 (ix2 i j) = (σ j : EReal) := by
    intro j
    rw [← a3 j, e81]
    pointwise []
  have hf : ∀ j, Ideal.liftRound Int.floor ((v81 (ix2 i j) : EReal) * ((8192 : ℝ) : EReal)) = (((⌊σ j * 8192⌋ : ℤ) : ℝ) : EReal) := by
    intro j
    rw [h3, ← EReal.coe_mul]
    rfl
  have := h2 i a b a1 ((a2 a).2 ha) ((a2 b).2 hb)
  rw [← c8192] at hf
  pointwise [] at this
  simp only [hf] at this
  simp only [bit_sum, and_one, bool_one, decide_eq_true_iff, a2, h3, EReal.coe_lt_coe_iff, EReal.coe_le_coe_iff, Int.cast_lt, Int.cast_le,
    Nat.cast_lt_ofNat, Nat.ofNat_lt_cast, EReal.coe_eq_coe_iff] at this
  exact this hlt (by simpa only [← hab] using hlt) hgt (by simpa only [← hab] using hgt)

/-- A row's norm. -/
theorem norm_apply (v : FVec Ideal S512x512 .f32) (i : Fin 512) : fn_norm v (ix2 i 0) = Ideal.sqrt (∑ x, v (ix2 i x) * v (ix2 i x) : EReal) := by
  pointwise [fn_norm]

/-- The draws are not negative, and a chosen one's is above the rest's. -/
theorem part3 (arg8 : FVec Ideal S512x512 .f32) (v12 : FVec Ideal S512x512 .f32) (v18 : IVec S_ 1) (v23 : IVec S512 1) (v28 v49 v51 : IVec S512x512 1) (v58 : IVec S_ 1)
    (h : fn_part3 (F := Ideal) arg8 v12 v18 v23 v28 v49 v51 v58 ix0 = 1#1) :
    (v18 ix0 = 1#1 ∧ v58 ix0 = 1#1) ∧ (∀ i j, (0 : EReal) ≤ arg8 (ix2 i j))
      ∧ (∀ i j k, v49 (ix2 i j) = 1#1 → v51 (ix2 i k) = 1#1 → (arg8 (ix2 i k) : EReal) < arg8 (ix2 i j))
      ∧ ∀ (i : Fin 512) (L : Fin 16) (σ : Fin 512 → ℝ), v23 (ix1 i) = 1#1 → (∀ j, v28 (ix2 i j) = 1#1 ↔ j ∉ pos L)
      → (∀ j, (∑ x, Ideal.div (v12 (ix2 i x)) (Ideal.sqrt (∑ x, v12 (ix2 i x) * v12 (ix2 i x) : EReal))
        * Ideal.div (v12 (ix2 j x)) (Ideal.sqrt (∑ x, v12 (ix2 j x) * v12 (ix2 j x) : EReal)) : EReal) = (σ j : EReal)) → Split L σ := by
  unfold fn_part3 at h
  obtain ⟨h1, h2⟩ := part4 _ _ _ _ _ h
  obtain ⟨h1, h3⟩ := (and_one _ _).1 h1
  obtain ⟨h1, h4⟩ := (and_one _ _).1 h1
  refine ⟨(and_one _ _).1 h1, fun i j => ?_, fun i j k a1 a2 => ?_, fun i L σ a1 a2 a3 => h2 i L σ a1 a2 fun j => ?_⟩
  · have := Host.reduce_andi_all _ _ _ _ _ h4 (ix2 i j)
    pointwise [] at this
    rwa [bool_one, decide_eq_true_iff] at this
  · have := Host.reduce_andi_all _ _ _ _ _ h3 (ix3 i j k)
    pointwise [] at this
    rw [or_one, not_one, and_one, bool_one, decide_eq_true_iff] at this
    exact this.resolve_left fun hn => hn ⟨a1, a2⟩
  · rw [← a3 j]
    have e : ∀ i x, broadcastInDim S512x512 ![0, 1] bcast_S512x1_S512x512_0_1 (fn_norm v12) (ix2 i x) = Ideal.sqrt (∑ x, v12 (ix2 i x) * v12 (ix2 i x) : EReal) := by
      intro i x
      rw [← norm_apply]
      generalize fn_norm v12 = z
      pointwise []
    simp only [e]

/-- The chosen of a row with a label in range are thirty-two. -/
theorem part2 (arg8 : FVec Ideal S512x512 .f32) (v12 : FVec Ideal S512x512 .f32) (v18 : IVec S_ 1) (v23 : IVec S512 1) (v28 : IVec S512x512 1) (v35 : IVec S16x512x1 1) (v37 : IVec S1x512x512 16) (v39 : IVec S16x512x1 16)
    (h : fn_part2 (F := Ideal) arg8 v12 v18 v23 v28 v35 v37 v39 ix0 = 1#1) (Ch : Fin 512 → Fin 512 → Prop) [∀ i, DecidablePred (Ch i)]
    (hCh : ∀ i j, Ch i j ↔ v28 (ix2 i j) = 1#1 ∧ ∃ c : Fin 16, v35 (ix3 c i 0) = 1#1 ∧ IntOp.cmpi .sge (v37 (ix3 0 i j)) (v39 (ix3 c i 0)) = 1#1) :
    v18 ix0 = 1#1 ∧ (∀ i, v23 (ix1 i) = 1#1 → (univ.filter (Ch i)).card = 32) ∧ (∀ i j, (0 : EReal) ≤ arg8 (ix2 i j))
      ∧ (∀ i j k, Ch i j → v28 (ix2 i k) = 1#1 → ¬ Ch i k → (arg8 (ix2 i k) : EReal) < arg8 (ix2 i j))
      ∧ ∀ (i : Fin 512) (L : Fin 16) (σ : Fin 512 → ℝ), v23 (ix1 i) = 1#1 → (∀ j, v28 (ix2 i j) = 1#1 ↔ j ∉ pos L)
      → (∀ j, (∑ x, Ideal.div (v12 (ix2 i x)) (Ideal.sqrt (∑ x, v12 (ix2 i x) * v12 (ix2 i x) : EReal))
        * Ideal.div (v12 (ix2 j x)) (Ideal.sqrt (∑ x, v12 (ix2 j x) * v12 (ix2 j x) : EReal)) : EReal) = (σ j : EReal)) → Split L σ := by
  unfold fn_part2 at h
  obtain ⟨v49, e49⟩ : ∃ s : IVec S512x512 1, s = andi v28
    (cmpf .ogt (Host.reduceAdd (uitofp (F := Ideal) .f32 (andi (broadcastInDim S16x512x512 ![0, 1, 2] bcast_S16x512x1_S16x512x512_0_1_2 v35)
      (cmpi .sge (broadcastInDim S16x512x512 ![0, 1, 2] bcast_S1x512x512_S16x512x512_0_1_2 v37) (broadcastInDim S16x512x512 ![0, 1, 2] bcast_S16x512x1_S16x512x512_0_1_2 v39))))
      (constant S_ .f32 0x00000000#32) reducesTo_S16x512x512_S512x512_d0 h_S_) (broadcastInDim S512x512 ![] bcast_S_S512x512 (constant S_ .f32 0x00000000#32))) := ⟨_, rfl⟩
  simp only [← e49] at h
  have h3 : ∀ i j, v49 (ix2 i j) = 1#1 ↔ Ch i j := by
    intro i j
    have e : v49 (ix2 i j) = IntOp.andi (v28 (ix2 i j)) (BitVec.ofBool (decide ((0 : EReal) < ∑ x, FloatOps.uitofp (F := Ideal) .f32
        (IntOp.andi (v35 (ix3 x i 0)) (IntOp.cmpi .sge (v37 (ix3 0 i j)) (v39 (ix3 x i 0))))))) := by
      rw [e49]
      pointwise []
    rw [e, and_one, bool_one, decide_eq_true_iff, hCh, bit_sum, ← EReal.coe_zero, EReal.coe_lt_coe_iff, Nat.cast_pos, card_pos]
    simp only [and_one, Finset.Nonempty, mem_filter, mem_univ, true_and]
  obtain ⟨⟨h4, h5⟩, h6, h7, h8⟩ := part3 _ _ _ _ _ _ _ _ h
  refine ⟨h4, fun i a1 => ?_, h6, fun i j k a1 a2 a3 => h7 i j k ((h3 i j).2 a1) ((and_one _ _).2 ⟨a2, (not_one _).2 fun hn => a3 ((h3 i k).1 hn)⟩), h8⟩
  have := Host.reduce_andi_all _ _ _ _ _ h5 (ix1 i)
  pointwise [] at this
  rw [or_one, not_one, bool_one, decide_eq_true_iff, bit_sum, c32] at this
  have := EReal.coe_eq_coe_iff.1 (this.resolve_left fun hn => hn a1)
  simp only [h3] at this
  exact_mod_cast this

/-- A word is one of the sixteen labels when it is at least zero and below sixteen. -/
theorem label_iff (w : BitVec 32) : IntOp.cmpi .sge w 0#32 = 1#1 ∧ IntOp.cmpi .slt w 16#32 = 1#1 ↔ ∃ L : Fin 16, w = BitVec.ofNat 32 L.val := by
  have e1 : IntOp.cmpi .sge w 0#32 = 1#1 ↔ 0 ≤ w.toInt := by
    show BitVec.ofBool (BitVec.sle 0#32 w) = 1#1 ↔ _
    rw [bool_one, BitVec.sle_iff_toInt_le]
    simp
  have e2 : IntOp.cmpi .slt w 16#32 = 1#1 ↔ w.toInt < 16 := by
    show BitVec.ofBool (BitVec.slt w 16#32) = 1#1 ↔ _
    rw [bool_one, BitVec.slt_iff_toInt_lt]
    rfl
  rw [e1, e2]
  constructor
  · intro ⟨h1, h2⟩
    have h := w.isLt
    rw [BitVec.toInt_eq_toNat_cond] at h1 h2
    split at h1
    · refine ⟨⟨w.toNat, by omega⟩, ?_⟩
      apply BitVec.eq_of_toNat_eq
      rw [BitVec.toNat_ofNat]
      exact (Nat.mod_eq_of_lt h).symm
    · omega
  · rintro ⟨L, rfl⟩
    have := L.isLt
    rw [BitVec.toInt_eq_toNat_of_lt (by rw [BitVec.toNat_ofNat]; omega), BitVec.toNat_ofNat]
    omega

/-- The set of a row's chosen random negatives. -/
def Chosen (arg9 : IVec S512x512 16) (arg10 : IVec S16x512 32) (i : Fin 512) (L : Fin 16) : Finset (Fin 512) :=
  univ.filter fun j => j ∉ pos L ∧ BitVec.sle (BitVec.setWidth 16 (arg10 (ix2 L i))) (arg9 (ix2 j i)) = true

/-- What the labels, the tables and the draws satisfy. -/
theorem part1 (arg1 arg7 : IVec S512 32) (arg8 : FVec Ideal S512x512 .f32) (arg9 : IVec S512x512 16) (arg10 : IVec S16x512 32) (v7 : IVec S_ 1) (v12 : FVec Ideal S512x512 .f32)
    (v17 : IVec S_ 1) (h : fn_part1 (F := Ideal) arg1 arg7 arg8 arg9 arg10 v7 v12 v17 ix0 = 1#1) (h7 : v7 ix0 = 1#1 → ∀ j : Fin 512, arg7 (ix1 j) = BitVec.ofNat 32 (j.val % 16)) :
    (v7 ix0 = 1#1 ∧ v17 ix0 = 1#1) ∧ (∀ i j, (0 : EReal) ≤ arg8 (ix2 i j)) ∧ ∀ (i : Fin 512) (L : Fin 16), arg1 (ix1 i) = BitVec.ofNat 32 L.val →
      (Chosen arg9 arg10 i L).card = 32
      ∧ (∀ a ∈ Chosen arg9 arg10 i L, ∀ b, b ∉ pos L → b ∉ Chosen arg9 arg10 i L → (arg8 (ix2 i b) : EReal) < arg8 (ix2 i a))
      ∧ ∀ σ : Fin 512 → ℝ, (∀ j, (∑ x, Ideal.div (v12 (ix2 i x)) (Ideal.sqrt (∑ x, v12 (ix2 i x) * v12 (ix2 i x) : EReal))
        * Ideal.div (v12 (ix2 j x)) (Ideal.sqrt (∑ x, v12 (ix2 j x) * v12 (ix2 j x) : EReal)) : EReal) = (σ j : EReal)) → Split L σ := by
  classical
  unfold fn_part1 at h
  obtain ⟨h1, h2, h3, h4, h5⟩ := part2 _ _ _ _ _ _ _ _ h (fun i j => arg1 (ix1 i) ≠ arg7 (ix1 j) ∧ ∃ c : Fin 16, arg1 (ix1 i) = BitVec.ofNat 32 c.val
    ∧ BitVec.sle (BitVec.setWidth 16 (arg10 (ix2 c i))) (arg9 (ix2 j i)) = true) (fun i j => by
      pointwise []
      rw [ne_one]
      simp only [eq_one]
      exact Iff.and Iff.rfl (exists_congr fun c => Iff.and Iff.rfl (bool_one _).symm))
  pointwise [] at h1 h2 h4 h5
  simp only [and_one, ne_one] at h1 h2 h4 h5
  refine ⟨h1, h3, fun i L hL => ?_⟩
  have hm : ∀ j, arg1 (ix1 i) ≠ arg7 (ix1 j) ↔ j ∉ pos L := by
    intro j
    have := L.isLt
    rw [hL, h7 h1.1, mem_pos, not_iff_not]
    constructor
    · intro h
      have h' := congrArg BitVec.toNat h
      rw [BitVec.toNat_ofNat, BitVec.toNat_ofNat] at h'
      omega
    · intro h
      rw [h]
  have hc : ∀ j, (arg1 (ix1 i) ≠ arg7 (ix1 j) ∧ ∃ c : Fin 16, arg1 (ix1 i) = BitVec.ofNat 32 c.val
      ∧ BitVec.sle (BitVec.setWidth 16 (arg10 (ix2 c i))) (arg9 (ix2 j i)) = true) ↔ j ∈ Chosen arg9 arg10 i L := by
    intro j
    unfold Chosen
    rw [hm, mem_filter]
    refine ⟨fun ⟨hn, c, e, hs⟩ => ⟨mem_univ _, hn, ?_⟩, fun ⟨_, hn, hs⟩ => ⟨hn, L, hL, hs⟩⟩
    rw [(Cert.KernelRow.label_inj L c).1 (hL.symm.trans e)]
    exact hs
  have hv := (label_iff (arg1 (ix1 i))).2 ⟨L, hL⟩
  refine ⟨?_, fun a ha b hb hbn => h4 i a b ((hc a).2 ha) ((hm b).2 hb) fun hh => hbn ((hc b).1 hh), fun σ hs => h5 i L σ hv hm hs⟩
  rw [← h2 i hv]
  congr 1
  ext j
  rw [mem_filter, hc]
  simp

/-- The low four bits of a slot number. -/
theorem low_bits (j : Fin 512) : IntOp.andi (BitVec.ofNat 32 j.val) 15#32 = BitVec.ofNat 32 (j.val % 16) :=
  (slot_eq j ⟨j.val % 16, Nat.mod_lt _ (by norm_num)⟩).2 rfl

/-- The precondition read: the slots are the batch's own, their labels repeat every sixteen, no row's norm is zero, and what a row with a label
    needs. -/
theorem decode (arg0 : FVec Ideal S512x512 .f32) (arg1 arg2 : IVec S512 32) (arg3 : FVec Ideal S512x512 .f32) (arg4 : FVec Ideal S512 .f32)
    (arg5 : FVec Ideal S512x512 .f32) (arg6 : FVec Ideal S512 .f32) (arg7 : IVec S512 32) (arg8 : FVec Ideal S512x512 .f32)
    (arg9 : IVec S512x512 16) (arg10 : IVec S16x512 32) (h : fn (F := Ideal) arg0 arg1 arg2 arg3 arg4 arg5 arg6 arg7 arg8 arg9 arg10 ix0 = 1#1)
    (f : Fin 512 → Fin 512 → EReal) (hf : ∀ i k, f i k = (∑ l, arg0 (ix2 i l) * arg3 (ix2 k l) + arg4 (ix1 k) : EReal)) :
    (∀ i : Fin 512, arg2 (ix1 i) = BitVec.ofNat 32 i.val) ∧ (∀ j : Fin 512, arg7 (ix1 j) = BitVec.ofNat 32 (j.val % 16))
      ∧ (∀ i, 0 < ∑ k, f i k * f i k) ∧ (∀ i j, (0 : EReal) ≤ arg8 (ix2 i j)) ∧ ∀ (i : Fin 512) (L : Fin 16), arg1 (ix1 i) = BitVec.ofNat 32 L.val →
      (Chosen arg9 arg10 i L).card = 32
      ∧ (∀ a ∈ Chosen arg9 arg10 i L, ∀ b, b ∉ pos L → b ∉ Chosen arg9 arg10 i L → (arg8 (ix2 i b) : EReal) < arg8 (ix2 i a))
      ∧ ∀ σ : Fin 512 → ℝ, (∀ j, (∑ x, Ideal.div (f i x) (Ideal.sqrt (∑ x, f i x * f i x)) * Ideal.div (f j x) (Ideal.sqrt (∑ x, f j x * f j x)) : EReal)
        = (σ j : EReal)) → Split L σ := by
  unfold fn at h
  obtain ⟨v12, e12⟩ : ∃ z : FVec Ideal S512x512 .f32, z = addf (Host.dotGeneral dot_S512x512_S512x512_S512x512_1_0_0_1_n_n none arg0 (transpose S512x512 [1, 0] arg3 transposes_S512x512_S512x512_1_0))
    (broadcastInDim S512x512 ![0, 1] bcast_S1x512_S512x512_0_1 (broadcastInDim S1x512 ![1] bcast_S512_S1x512_1 arg4)) := ⟨_, rfl⟩
  simp only [← e12] at h
  have hv : ∀ i k, v12 (ix2 i k) = f i k := by
    intro i k
    rw [hf, e12]
    pointwise []
  clear e12
  obtain ⟨⟨h7, h17⟩, h8, hr⟩ := part1 _ _ _ _ _ _ _ _ h fun h7 j => by
    have := Host.reduce_andi_all _ _ _ _ _ ((and_one _ _).1 h7).2 (ix1 j)
    pointwise [] at this
    rw [eq_one] at this
    exact this.trans (low_bits j)
  simp only [hv] at hr
  refine ⟨fun i => ?_, fun j => ?_, fun i => ?_, h8, hr⟩
  · have := Host.reduce_andi_all _ _ _ _ _ ((and_one _ _).1 h7).1 (ix1 i)
    pointwise [] at this
    exact (eq_one _ _).1 this
  · have := Host.reduce_andi_all _ _ _ _ _ ((and_one _ _).1 h7).2 (ix1 j)
    pointwise [] at this
    exact ((eq_one _ _).1 this).trans (low_bits j)
  · have := Host.reduce_andi_all _ _ _ _ _ h17 (ix1 i)
    pointwise [] at this
    rw [bool_one, decide_eq_true_iff] at this
    simpa only [hv] using this

end Cert.PreDecode

end
-- ==== Proof.RefStages.lean ====
/- The reference's value as named stages. -/
module

public import proofs.«01_k».proof.Proof.Gen.ReferenceIdeal.Run

@[expose] public section

noncomputable section

namespace Cert.RefStages

open Cert.ReferenceIdeal Cert.ReferenceIdeal.Gen Idealize.ShloMosaic Idealize.SL.Sem

variable {F : FTy → Type} [FloatOps F]

/-- The linear layer. -/
def f2 (A0 A3 : FVec F S512x512 .f32) (A4 : FVec F S512 .f32) : FVec F S512x512 .f32 :=
  addf (Host.dotGeneral dot_S512x512_S512x512_S512x512_1_0_0_1_n_n none A0 (transpose S512x512 [1, 0] A3 transposes_S512x512_S512x512_1_0))
    (broadcastInDim S512x512 ![0, 1] bcast_S1x512_S512x512_0_1 (broadcastInDim S1x512 ![1] bcast_S512_S1x512_1 A4))

/-- Rows divided by their norms. -/
def fn (f : FVec F S512x512 .f32) : FVec F S512x512 .f32 :=
  Host.divf f (broadcastInDim S512x512 ![0, 1] bcast_S512x1_S512x512_0_1 (Host.sqrt (broadcastInDim S512x1 ![0] bcast_S512_S512x1_0
    (Host.reduceAdd (mulf f f) (constant S_ .f32 0x00000000#32) reducesTo_S512x512_S512_d1 h_S_))))

/-- The slots the batch is written to, negatives counted from the end. -/
def slots (A2 : IVec S512 32) : IVec S512x1 32 :=
  broadcastInDim S512x1 ![0] bcast_S512_S512x1_0 (select (cmpi .slt A2 (broadcastInDim S512 ![] bcast_S_S512 (constantI S_ 32 0#32)))
    (addi A2 (broadcastInDim S512 ![] bcast_S_S512 (constantI S_ 32 512#32))) A2)

/-- The filled marks of the memory after the write. -/
def filled (A6 : FVec F S512 .f32) (t : IVec S512x1 32) : FVec F S512x512 .f32 :=
  broadcastInDim S512x512 ![0, 1] bcast_S1x512_S512x512_0_1 (broadcastInDim S1x512 ![1] bcast_S512_S1x512_1
    (Host.scatter scatter_S512_S512x1_S512_n_0_0_1 (fun _ b => b) A6 t (broadcastInDim S512 ![] bcast_S_S512 (constant S_ .f32 0x3F800000#32))))

/-- The memory after the write. -/
def memory (A5 : FVec F S512x512 .f32) (t : IVec S512x1 32) (g : FVec F S512x512 .f32) : FVec F S512x512 .f32 :=
  Host.scatter scatter_S512x512_S512x1_S512x512_1_0_0_1 (fun _ b => b) A5 t g

/-- The similarities. -/
def sims (g mem : FVec F S512x512 .f32) : FVec F S512x512 .f32 :=
  Host.dotGeneral dot_S512x512_S512x512_S512x512_1_1_0_0_n_n none g mem

/-- Where a row's label is a slot's. -/
def same (A1 A7 : IVec S512 32) : IVec S512x512 1 :=
  cmpi .eq (broadcastInDim S512x512 ![0, 1] bcast_S512x1_S512x512_0_1 (broadcastInDim S512x1 ![0] bcast_S512_S512x1_0 A1))
    (broadcastInDim S512x512 ![0, 1] bcast_S1x512_S512x512_0_1 (broadcastInDim S1x512 ![1] bcast_S512_S1x512_1 A7))

/-- The positive weights. -/
def posW (A1 A7 : IVec S512 32) (w : FVec F S512x512 .f32) : FVec F S512x512 .f32 := mulf (uitofp (F := F) .f32 (same A1 A7)) w

/-- The negative weights. -/
def negW (A1 A7 : IVec S512 32) (w : FVec F S512x512 .f32) : FVec F S512x512 .f32 :=
  mulf (subf (broadcastInDim S512x512 ![] bcast_S_S512x512 (constant S_ .f32 0x3F800000#32)) (uitofp (F := F) .f32 (same A1 A7))) w

/-- A row has enough positives and negatives. -/
def valid (p n : FVec F S512x512 .f32) : IVec S512 1 :=
  andi (cmpf .oge (Host.reduceAdd p (constant S_ .f32 0x00000000#32) reducesTo_S512x512_S512_d1 h_S_) (broadcastInDim S512 ![] bcast_S_S512 (constant S_ .f32 0x41000000#32)))
    (cmpf .oge (Host.reduceAdd n (constant S_ .f32 0x00000000#32) reducesTo_S512x512_S512_d1 h_S_) (broadcastInDim S512 ![] bcast_S_S512 (constant S_ .f32 0x42000000#32)))

/-- Where a weight is positive. -/
def some? (w : FVec F S512x512 .f32) : IVec S512x512 1 :=
  cmpf .ogt w (broadcastInDim S512x512 ![] bcast_S_S512x512 (constant S_ .f32 0x00000000#32))

/-- The rows of candidates for the eight least positives. -/
def posRow (p s : FVec F S512x512 .f32) : FVec F S512x512 .f32 :=
  select (some? p) s (broadcastInDim S512x512 ![] bcast_S_S512x512 (id (constant S_ .f32 0x461C4000#32)))

/-- The eight least positives. -/
def least8 (p s : FVec F S512x512 .f32) : FVec F S512x8 .f32 :=
  extractStridedSlice S512x8 ![0, 0] (Host.sort S512x512 1 comparator_f32_d1 (posRow p s)) slices_S512x512_S512x8_0_0

/-- The thirty-two greatest of a table where a mask holds, else of a constant. -/
def top32 (mask : IVec S512x512 1) (x : FVec F S512x512 .f32) (b : BitVec 32) : FVec F S512x32 .f32 × IVec S512x32 32 :=
  Host.topK S512x32 1 (FloatOps.cmpfTotal .gt) (select mask x (broadcastInDim S512x512 ![] bcast_S_S512x512 (id (constant S_ .f32 b)))) sliceFits_S512x512_S512x32

/-- Positions as gather indices. -/
def places (t : IVec S512x32 32) : IVec S512x32x1 32 :=
  shapeCast S512x32x1 (select (cmpi .slt t (broadcastInDim S512x32 ![] bcast_S_S512x32 (constantI S_ 32 0#32)))
    (addi t (broadcastInDim S512x32 ![] bcast_S_S512x32 (constantI S_ 32 512#32))) t) shapeCasts_S512x32_S512x32x1

/-- Where a gather index is inside the row. -/
def inside (p : IVec S512x32x1 32) : IVec S512x32 1 :=
  Host.reduce IntOp.andi (andi (cmpi .sge p (broadcastInDim S512x32x1 ![] bcast_S_S512x32x1 (constantI S_ 32 0#32)))
    (cmpi .sle p (broadcastInDim S512x32x1 ![0, 1, 2] bcast_S1x1x1_S512x32x1_0_1_2 (broadcastInDim S1x1x1 ![2] bcast_S1_S1x1x1_2 (constantI S1 32 511#32)))))
    (constantI S_ 1 1#1) reducesTo_S512x32x1_S512x32_d2 h_S_

/-- The similarities at the given places. -/
def taken (s : FVec F S512x512 .f32) (p : IVec S512x32x1 32) : FVec F S512x32 .f32 :=
  select (inside p) (Host.gather gather_S512x512_S512x32x1_S512x32_n_1_0_0_1_2_11 s p)
    (broadcastInDim S512x32 ![] bcast_S_S512x32 (constant (F := F) S_ .f32 0x7FC00000#32))

/-- One positive beside thirty-two negatives. -/
def beside (l : FVec F S512x8 .f32) (n : FVec F S512x32 .f32) : FVec F S512x8x33 .f32 :=
  concatenate S512x8x33 2 [⟨S512x8x1, broadcastInDim S512x8x1 ![0, 1] bcast_S512x8_S512x8x1_0_1 l⟩,
    ⟨S512x8x32, broadcastInDim S512x8x32 ![0, 1, 2] bcast_S512x1x32_S512x8x32_0_1_2 (broadcastInDim S512x1x32 ![0, 2] bcast_S512x32_S512x1x32_0_2 n)⟩]
    concatenates_S512x8x1_S512x8x32_S512x8x33_d2

/-- The logits. -/
def logits (a b : FVec F S512x8x33 .f32) : FVec F S512x16x33 .f32 :=
  Host.divf (concatenate S512x16x33 1 [⟨S512x8x33, a⟩, ⟨S512x8x33, b⟩] concatenates_S512x8x33_S512x8x33_S512x16x33_d1)
    (broadcastInDim S512x16x33 ![] bcast_S_S512x16x33 (constant S_ .f32 0x3F4CCCCD#32))

/-- The cross entropies. -/
def entropy (g : FVec F S512x16x33 .f32) : FVec F S512x16 .f32 :=
  subf (Host.log (Host.reduceAdd (Host.exp g) (constant S_ .f32 0x00000000#32) reducesTo_S512x16x33_S512x16_d2 h_S_))
    (shapeCast S512x16 (extractStridedSlice S512x16x1 ![0, 0, 0] g slices_S512x16x33_S512x16x1_0_0_0) shapeCasts_S512x16x1_S512x16)

/-- The mean over the valid rows. -/
def mean (v : IVec S512 1) (e : FVec F S512x16 .f32) : FVec F S_ .f32 :=
  select (cmpf .ogt (Host.reduceAdd (uitofp (F := F) .f32 v) (constant S_ .f32 0x00000000#32) reducesTo_S512_S_d0 h_S_) (constant S_ .f32 0x00000000#32))
    (Host.divf (Host.reduceAdd (mulf e (broadcastInDim S512x16 ![0, 1] bcast_S512x1_S512x16_0_1 (broadcastInDim S512x1 ![0] bcast_S512_S512x1_0 (uitofp (F := F) .f32 v))))
        (constant S_ .f32 0x00000000#32) reducesTo_S512x16_S_d0_1 h_S_)
      (maximumf (mulf (mulf (Host.reduceAdd (uitofp (F := F) .f32 v) (constant S_ .f32 0x00000000#32) reducesTo_S512_S_d0 h_S_) (constant S_ .f32 0x40000000#32))
        (constant S_ .f32 0x41000000#32)) (constant S_ .f32 0x3F800000#32)))
    (id (constant S_ .f32 0x00000000#32))

section whole
variable (A0 : FVec F S512x512 .f32) (A1 A2 : IVec S512 32) (A3 : FVec F S512x512 .f32) (A4 : FVec F S512 .f32)
  (A5 : FVec F S512x512 .f32) (A6 : FVec F S512 .f32) (A7 : IVec S512 32) (A8 : FVec F S512x512 .f32)

/-- All similarities. -/
def S : FVec F S512x512 .f32 := sims (fn (f2 A0 A3 A4)) (memory A5 (slots A2) (fn (f2 A0 A3 A4)))

/-- All positive weights. -/
def P : FVec F S512x512 .f32 := posW A1 A7 (filled A6 (slots A2))

/-- All negative weights. -/
def N : FVec F S512x512 .f32 := negW A1 A7 (filled A6 (slots A2))

/-- The loss. -/
def out : FVec F S1x1 .f32 :=
  shapeCast S1x1 (mean (valid (P A1 A2 A6 A7) (N A1 A2 A6 A7)) (entropy (logits
    (beside (least8 (P A1 A2 A6 A7) (S A0 A2 A3 A4 A5)) (top32 (some? (N A1 A2 A6 A7)) (S A0 A2 A3 A4 A5) 0xC61C4000#32).1)
    (beside (least8 (P A1 A2 A6 A7) (S A0 A2 A3 A4 A5)) (taken (S A0 A2 A3 A4 A5) (places (top32 (some? (N A1 A2 A6 A7)) A8 0xBF800000#32).2)))))) shapeCasts_S_S1x1

end whole

set_option maxRecDepth 8192 in
/-- The reference's result is the last stage at its arguments. -/
theorem res_eq (m : (ℓ : Loc nD τ sig) → Buf (Elt F) ℓ) (c : Dev nD) : Value.res_main_v86 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v86
  rfl

end Cert.RefStages

end
-- ==== Proof.RefReads.lean ====
/- The reference's stages read at an index. -/
module

public import proofs.«01_k».proof.Proof.RefStages
public import proofs.«01_k».proof.Proof.Reals
public import Idealize.ShloMosaic.Lib.Pointwise

@[expose] public section

noncomputable section

namespace Cert.RefReads

open Cert.ReferenceIdeal Cert.ReferenceIdeal.Gen Idealize.ShloMosaic Cert.RefStages

variable (A0 A3 A5 A8 f g x : FVec Ideal S512x512 .f32) (A1 A2 A7 : IVec S512 32) (A4 A6 : FVec Ideal S512 .f32)
variable (i j k : Fin 512)

/-- The linear layer. -/
theorem f2_apply : f2 A0 A3 A4 (ix2 j k) = (∑ x, A0 (ix2 j x) * A3 (ix2 k x) + A4 (ix1 k) : EReal) := by
  pointwise [f2]

/-- A row over its norm. -/
theorem fn_apply : fn f (ix2 j k) = Ideal.div (f (ix2 j k)) (Ideal.sqrt (∑ x, f (ix2 j x) * f (ix2 j x) : EReal)) := by
  pointwise [fn]

/-- The slot a row is written to. -/
theorem slots_apply : slots A2 (ix2 j 0) = Scalar.select (IntOp.cmpi .slt (A2 (ix1 j)) 0#32) (IntOp.addi (A2 (ix1 j)) 512#32) (A2 (ix1 j)) := by
  pointwise [slots]

/-- A similarity. -/
theorem sims_apply : sims f g (ix2 i j) = (∑ x, f (ix2 i x) * g (ix2 j x) : EReal) := by
  pointwise [sims]

/-- The filled marks are the written marks. -/
theorem filled_apply (t : IVec S512x1 32) : filled A6 t (ix2 i j)
    = Host.scatter scatter_S512_S512x1_S512_n_0_0_1 (fun _ b => b) A6 t (broadcastInDim S512 ![] bcast_S_S512 (constant S_ .f32 0x3F800000#32)) (ix1 j) := by
  unfold filled
  generalize Host.scatter _ _ _ _ _ = z
  pointwise []

/-- A positive weight. -/
theorem posW_apply (hf : f (ix2 i j) = (1 : EReal)) : posW A1 A7 f (ix2 i j) = (((if A1 (ix1 i) = A7 (ix1 j) then 1 else 0 : ℝ)) : EReal) := by
  have e : posW A1 A7 f (ix2 i j) = (FloatOps.uitofp (F := Ideal) .f32 (IntOp.cmpi .eq (A1 (ix1 i)) (A7 (ix1 j))) * f (ix2 i j) : EReal) := by
    pointwise [posW, same]
  rw [e, hf, mul_one]
  refine (Cert.Reals.uitofp_bool (decide (A1 (ix1 i) = A7 (ix1 j)))).trans ?_
  simp

/-- A negative weight. -/
theorem negW_apply (hf : f (ix2 i j) = (1 : EReal)) : negW A1 A7 f (ix2 i j) = (((if A1 (ix1 i) = A7 (ix1 j) then 0 else 1 : ℝ)) : EReal) := by
  have e : negW A1 A7 f (ix2 i j) = ((1 - FloatOps.uitofp (F := Ideal) .f32 (IntOp.cmpi .eq (A1 (ix1 i)) (A7 (ix1 j)))) * f (ix2 i j) : EReal) := by
    pointwise [negW, same]
  rw [e, hf, mul_one]
  refine (congrArg (fun z : EReal => 1 - z) (Cert.Reals.uitofp_bool (decide (A1 (ix1 i) = A7 (ix1 j))))).trans ?_
  rw [← EReal.coe_one, ← EReal.coe_sub]
  congr 1
  by_cases h : A1 (ix1 i) = A7 (ix1 j) <;> simp [h]

/-- Whether a row counts. -/
theorem valid_apply : valid f g (ix1 i) = IntOp.andi (BitVec.ofBool (decide ((((8 : ℝ)) : EReal) ≤ (∑ x, f (ix2 i x) : EReal))))
      (BitVec.ofBool (decide ((((32 : ℝ)) : EReal) ≤ (∑ x, g (ix2 i x) : EReal)))) := by
  rw [← Cert.Reals.c8, ← Cert.Reals.c32]
  pointwise [valid]

/-- Whether a weight is positive. -/
theorem some_apply : some? f (ix2 i j) = BitVec.ofBool (decide ((0 : EReal) < f (ix2 i j))) := by
  pointwise [some?]

/-- A candidate for the least positives. -/
theorem posRow_apply : posRow f g (ix2 i j) = (if (0 : EReal) < f (ix2 i j) then g (ix2 i j) else (((10000 : ℝ)) : EReal) : EReal) := by
  rw [← Cert.Reals.c1e4]
  pointwise [posRow, some?]
  rfl

/-- A candidate of a masked table. -/
theorem masked_apply (mask : IVec S512x512 1) (b : BitVec 32) : (select mask x (broadcastInDim S512x512 ![] bcast_S_S512x512 (id (constant S_ .f32 b)))) (ix2 i j)
    = (if mask (ix2 i j) = 1#1 then x (ix2 i j) else Ideal.ofBits .f32 b : EReal) := by
  pointwise []
  rfl

/-- One of the eight least. -/
theorem least8_apply (c : Fin 8) : least8 f g (ix2 i c) = Host.sort S512x512 1 comparator_f32_d1 (posRow f g) (ix2 i (c.castLE (by decide))) := by
  unfold least8
  generalize Host.sort S512x512 1 comparator_f32_d1 (posRow f g) = z
  pointwise []
  rfl

/-- A gather index. -/
theorem places_apply (t : IVec S512x32 32) (c : Fin 32) : places t (ix3 i c 0)
    = Scalar.select (IntOp.cmpi .slt (t (ix2 i c)) 0#32) (IntOp.addi (t (ix2 i c)) 512#32) (t (ix2 i c)) := by
  pointwise [places]

/-- Whether it is inside. -/
theorem inside_apply (t : IVec S512x32x1 32) (c : Fin 32) : inside t (ix2 i c)
    = Finset.fold IntOp.andi (1#1) (fun x => IntOp.andi (IntOp.cmpi .sge (t (ix3 i c x)) 0#32) (IntOp.cmpi .sle (t (ix3 i c x)) 511#32)) Finset.univ := by
  pointwise [inside]

/-- A taken similarity. -/
theorem taken_apply (t : IVec S512x32x1 32) (c : Fin 32) (h : inside t (ix2 i c) = 1#1) :
    taken f t (ix2 i c) = Host.gather gather_S512x512_S512x32x1_S512x32_n_1_0_0_1_2_11 f t (ix2 i c) := by
  unfold taken
  generalize Host.gather _ _ _ = z
  generalize inside t = w at h ⊢
  pointwise []
  rw [h]
  rfl

/-- A logit's numerator. -/
theorem beside_apply (l : FVec Ideal S512x8 .f32) (n : FVec Ideal S512x32 .f32) (a : Fin 8) (c : Fin 33) :
    beside l n (ix3 i a c) = (if h : c.val < 1 then l (ix2 i a) else n (ix2 i ⟨c.val - 1, by omega⟩) : EReal) := by
  pointwise [beside]

/-- A logit. -/
theorem logits_apply (l n : FVec Ideal S512x8x33 .f32) (a : Fin 16) (c : Fin 33) : logits l n (ix3 i a c)
    = Ideal.div (if h : a.val < 8 then l (ix3 i ⟨a.val, h⟩ c) else n (ix3 i ⟨a.val - 8, by omega⟩ c)) (((13421773 / 16777216 : ℝ)) : EReal) := by
  rw [← Cert.Reals.cT]
  pointwise [logits]

/-- A cross entropy. -/
theorem entropy_apply (l : FVec Ideal S512x16x33 .f32) (a : Fin 16) : entropy l (ix2 i a)
    = (Ideal.log (∑ x, Ideal.exp (l (ix3 i a x)) : EReal) - l (ix3 i a 0) : EReal) := by
  pointwise [entropy]

/-- The mean. -/
theorem mean_apply (v : IVec S512 1) (l : FVec Ideal S512x16 .f32) : shapeCast S1x1 (mean v l) shapeCasts_S_S1x1 (ix2 0 0)
    = (if (0 : EReal) < ∑ x, FloatOps.uitofp (F := Ideal) .f32 (v (ix1 x)) then
      Ideal.div (∑ x, ∑ x_1, l (ix2 x x_1) * FloatOps.uitofp (F := Ideal) .f32 (v (ix1 x)) : EReal)
        (max ((∑ x, FloatOps.uitofp (F := Ideal) .f32 (v (ix1 x)) : EReal) * (((2 : ℝ)) : EReal) * (((8 : ℝ)) : EReal)) 1)
    else 0 : EReal) := by
  rw [← Cert.Reals.c2, ← Cert.Reals.c8]
  have h0 : (id (constant (F := Ideal) S_ .f32 0x00000000#32) ix0 : EReal) = 0 := Ideal.ofBits_zero_f32
  pointwise [mean]
  simp only [h0]

end Cert.RefReads

end
-- ==== Proof.Sorted.lean ====
/- The first entries of a sorted row as a set, and the reads of sorting, of the greatest entries, of the row write and of the take along a row. -/
module

public import proofs.«01_k».proof.Proof.RefStages
public import Idealize.ShloMosaic.Lib.SortFacts
public import Idealize.ShloMosaic.Lib.Routing.OpsPair
public import Idealize.ShloMosaic.Lib.Routing.OpsSet
public import Idealize.ShloMosaic.Lib.Pointwise

@[expose] public section

noncomputable section

namespace Cert.Sorted

open Cert.ReferenceIdeal Cert.ReferenceIdeal.Gen Idealize.ShloMosaic

/-- The places the first `k` entries of a sorted row come from. -/
def first {n k : ℕ} (hk : k ≤ n) (B : Fin n → Fin n → Bool) : Finset (Fin n) :=
  Finset.univ.image fun r : Fin k => sortedFrom B (r.castLE hk)

/-- They are `k` places. -/
theorem first_card {n k : ℕ} (hk : k ≤ n) (B : Fin n → Fin n → Bool) : (first hk B).card = k := by
  unfold first
  rw [Finset.card_image_of_injective _ fun a b h => Fin.castLE_injective hk (sortedFrom_injective B h)]
  simp

/-- A sum over the entries is a sum over the places. -/
theorem first_sum {n k : ℕ} (hk : k ≤ n) (B : Fin n → Fin n → Bool) {M : Type*} [AddCommMonoid M] (f : Fin n → M) :
    ∑ r : Fin k, f (sortedFrom B (r.castLE hk)) = ∑ j ∈ first hk B, f j := by
  unfold first
  rw [Finset.sum_image fun a _ b _ h => Fin.castLE_injective hk (sortedFrom_injective B h)]

/-- An entry's place is one of them. -/
theorem mem_first {n k : ℕ} (hk : k ≤ n) (B : Fin n → Fin n → Bool) (r : Fin k) : sortedFrom B (r.castLE hk) ∈ first hk B :=
  Finset.mem_image_of_mem _ (Finset.mem_univ r)

/-- No place outside comes before one inside. -/
theorem first_le {n k : ℕ} (hk : k ≤ n) (B : Fin n → Fin n → Bool) (h1 : ∀ a b, B a b = true → B b a = false)
    (h2 : ∀ a b c, B a b = false → B b c = false → B a c = false) (a b : Fin n) (ha : a ∈ first hk B) (hb : b ∉ first hk B) : B b a = false := by
  obtain ⟨r, -, rfl⟩ := Finset.mem_image.1 ha
  obtain ⟨q, rfl⟩ := sortedFrom_surjective B b
  have hq : k ≤ q.val := by
    by_contra h
    exact hb (mem_first hk B ⟨q.val, by omega⟩)
  exact sortedFrom_noInversion B B h1 (fun _ _ h => h) h2 _ _ (show (r.castLE hk).val < q.val from lt_of_lt_of_le r.isLt hq)

/-- The order the comparator gives. -/
def lt (x : Fin 512 → EReal) (a b : Fin 512) : Bool := decide (x a < x b)

/-- The comparison is asymmetric. -/
theorem lt_asymm (x : Fin 512 → EReal) (a b : Fin 512) (h : lt x a b = true) : lt x b a = false :=
  decide_eq_false (not_lt.2 (of_decide_eq_true h).le)

/-- Not being below is transitive. -/
theorem lt_neg (x : Fin 512 → EReal) (a b c : Fin 512) (h : lt x a b = false) (h' : lt x b c = false) : lt x a c = false :=
  decide_eq_false (not_lt.2 ((not_lt.1 (of_decide_eq_false h')).trans (not_lt.1 (of_decide_eq_false h))))

/-- The comparator at the extended reals. -/
theorem comparator_eq (l r : Ideal .f32) : comparator_f32_d1 (F := Ideal) l r = BitVec.ofBool (decide ((l : EReal) < r)) := by
  have e : ∀ z : EReal, ∀ w : EReal, Scalar.select (Ideal.cmp .une z z) w (Scalar.select (Ideal.cmp .oeq z 0) (0 : EReal) z) = z := by
    intro z w
    have h1 : Ideal.cmp .une z z = 0#1 := by simp [Ideal.cmp]
    rw [h1]
    by_cases hz : z = 0
    · subst hz
      simp [Scalar.select]
    · have h2 : Ideal.cmp .oeq z 0 = 0#1 := by simp [Ideal.cmp, hz]
      rw [h2]
      simp [Scalar.select]
  have hz : FloatOps.ofBits (F := Ideal) .f32 0x00000000#32 = (0 : EReal) := Ideal.ofBits_zero_f32
  unfold comparator_f32_d1
  simp only [hz]
  exact congrArg₂ (fun a b : EReal => BitVec.ofBool (decide (a < b))) (e l _) (e r _)

/-- A row of a table along the second axis. -/
theorem along_eq (i : Fin 512) (n : ℕ) (c : Fin n) (k : Fin n) : (ix2 i c).along (1 : Fin 2) k = ix2 i k := by
  funext a
  fin_cases a <;> rfl

/-- An entry of the ascending sort of a row. -/
theorem sort_apply (x : FVec Ideal S512x512 .f32) (i c : Fin 512) :
    Host.sort S512x512 1 (comparator_f32_d1 (F := Ideal)) x (ix2 i c) = x (ix2 i (sortedFrom (lt fun k => x (ix2 i k)) c)) := by
  have e : (fun k k' : Fin 512 => comparator_f32_d1 (F := Ideal) (x ((ix2 i c).along (1 : Fin 2) k)) (x ((ix2 i c).along (1 : Fin 2) k')) == 1#1)
      = lt fun k => x (ix2 i k) := by
    funext k k'
    refine (congrArg₂ (fun a b => comparator_f32_d1 (F := Ideal) (x a) (x b) == 1#1) (along_eq i 512 c k) (along_eq i 512 c k')).trans ?_
    simp only [comparator_eq]
    unfold lt
    by_cases h : (x (ix2 i k) : EReal) < x (ix2 i k') <;> simp [h]
  exact (congrArg x (along_eq i 512 c _)).trans (congrArg (fun R => x (ix2 i (sortedFrom R c))) e)

/-- The order of the descending sort. -/
theorem gt_eq (x : FVec Ideal S512x512 .f32) (i c : Fin 512) :
    (fun k k' : Fin 512 => FloatOps.cmpfTotal (F := Ideal) .gt (x ((ix2 i c).along (1 : Fin 2) k)) (x ((ix2 i c).along (1 : Fin 2) k')) == 1#1)
      = fun a b => lt (fun k => x (ix2 i k)) b a := by
  funext k k'
  refine (congrArg₂ (fun a b => FloatOps.cmpfTotal (F := Ideal) .gt (x a) (x b) == 1#1) (along_eq i 512 c k) (along_eq i 512 c k')).trans ?_
  show (BitVec.ofBool (decide ((x (ix2 i k) : EReal) > x (ix2 i k'))) == 1#1) = decide ((x (ix2 i k') : EReal) < x (ix2 i k))
  by_cases h : (x (ix2 i k') : EReal) < x (ix2 i k) <;> simp [h]

/-- The place in the table of a place in its first columns. -/
theorem slice_eq (i : Fin 512) (c : Fin 32) :
    (fun a => ⟨0 + ((ix2 i c : S512x32.Idx) (a.cast rfl)).val, by
      fin_cases a
      · exact lt_of_eq_of_lt (Nat.zero_add _) i.isLt
      · exact lt_of_eq_of_lt (Nat.zero_add _) (lt_trans c.isLt (by decide))⟩ : S512x512.Idx) = ix2 i (c.castLE (by decide)) := by
  funext a
  fin_cases a <;> exact Fin.ext (Nat.zero_add _)

/-- An entry of the descending sort of a row. -/
theorem topK_val (x : FVec Ideal S512x512 .f32) (i : Fin 512) (c : Fin 32) :
    (Host.topK S512x32 1 (FloatOps.cmpfTotal .gt) x sliceFits_S512x512_S512x32).1 (ix2 i c)
      = x (ix2 i (sortedFrom (fun a b => lt (fun k => x (ix2 i k)) b a) (c.castLE (by decide)))) := by
  refine (congrArg (fun j : S512x512.Idx => x (j.along (1 : Fin 2) (sortedFrom (fun k k' : Fin 512 => FloatOps.cmpfTotal (F := Ideal) .gt
    (x (j.along (1 : Fin 2) k)) (x (j.along (1 : Fin 2) k')) == 1#1) (j 1)))) (slice_eq i c)).trans ?_
  exact (congrArg x (along_eq i 512 _ _)).trans (congrArg (fun R => x (ix2 i (sortedFrom R (c.castLE (by decide))))) (gt_eq x i _))

/-- Its place. -/
theorem topK_idx (x : FVec Ideal S512x512 .f32) (i : Fin 512) (c : Fin 32) :
    (Host.topK S512x32 1 (FloatOps.cmpfTotal .gt) x sliceFits_S512x512_S512x32).2 (ix2 i c)
      = BitVec.ofNat 32 (sortedFrom (fun a b => lt (fun k => x (ix2 i k)) b a) (c.castLE (by decide))).val := by
  refine (congrArg (fun j : S512x512.Idx => iotaInDim S512x512 32 1 (j.along (1 : Fin 2) (sortedFrom (fun k k' : Fin 512 => FloatOps.cmpfTotal (F := Ideal) .gt
    (x (j.along (1 : Fin 2) k)) (x (j.along (1 : Fin 2) k')) == 1#1) (j 1)))) (slice_eq i c)).trans ?_
  refine (congrArg (iotaInDim S512x512 32 1) (along_eq i 512 _ _)).trans ?_
  exact congrArg (fun R => BitVec.ofNat 32 (sortedFrom R (c.castLE (by decide))).val) (gt_eq x i _)

/-- The take along a row. -/
theorem gather_apply (x : FVec Ideal S512x512 .f32) (idx : IVec S512x32x1 32) (i : Fin 512) (r : Fin 32) (b : Fin 512)
    (h : idx (ix3 i r 0) = BitVec.ofNat 32 b.val) :
    Host.gather gather_S512x512_S512x32x1_S512x32_n_1_0_0_1_2_11 x idx (ix2 i r) = x (ix2 i b) := by
  have hs : ∀ q, gather_S512x512_S512x32x1_S512x32_n_1_0_0_1_2_11.siIdx (ix2 i r) q = ix3 i r 0 := by
    intro q
    funext a
    apply Fin.ext
    fin_cases a
    · rfl
    · rfl
    · show q.val = 0
      have := q.isLt
      exact Nat.lt_one_iff.1 this
  have hb : (BitVec.ofNat 32 b.val).toInt.toNat = b.val := by
    have := b.isLt
    rw [BitVec.toInt_eq_toNat_of_lt (by rw [BitVec.toNat_ofNat]; omega), BitVec.toNat_ofNat]
    omega
  unfold Host.gather
  congr 1
  funext a
  apply Fin.ext
  unfold GatherDims.operandIdx
  fin_cases a
  · show 0 + i.val + 0 = i.val
    omega
  · show min (idx (gather_S512x512_S512x32x1_S512x32_n_1_0_0_1_2_11.siIdx (ix2 i r) _)).toInt.toNat (512 - 1) + 0 + 0 = b.val
    rw [hs, h, hb]
    have := b.isLt
    omega

/-- Every row written in its own place. -/
theorem memory_apply (x g : FVec Ideal S512x512 .f32) (idx : IVec S512x1 32) (h : ∀ i : Fin 512, idx (ix2 i 0) = BitVec.ofNat 32 i.val)
    (i c : Fin 512) : RefStages.memory x idx g (ix2 i c) = g (ix2 i c) := by
  have hb : ∀ b : Fin 512, (BitVec.ofNat 32 b.val).toInt = b.val := by
    intro b
    have := b.isLt
    rw [BitVec.toInt_eq_toNat_of_lt (by rw [BitVec.toNat_ofNat]; omega), BitVec.toNat_ofNat]
    omega
  have hr : ∀ p q : Fin 512, scatter_S512x512_S512x1_S512x512_1_0_0_1.resultIdx? (ix2 p q) idx = some (ix2 i c) ↔ p = i ∧ q = c := by
    intro p q
    have hs : ∀ t, scatter_S512x512_S512x1_S512x512_1_0_0_1.siIdx (ix2 p q) t = ix2 p 0 := by
      intro t
      funext a
      apply Fin.ext
      fin_cases a
      · rfl
      · show t.val = 0
        exact Nat.lt_one_iff.1 t.isLt
    have h0 : scatter_S512x512_S512x1_S512x512_1_0_0_1.start (ix2 p q) idx 0 = p.val := by
      show (idx (scatter_S512x512_S512x1_S512x512_1_0_0_1.siIdx (ix2 p q) _)).toInt = p.val
      rw [hs, h, hb]
    have h1 : scatter_S512x512_S512x1_S512x512_1_0_0_1.start (ix2 p q) idx 1 = 0 := rfl
    have w0 : scatter_S512x512_S512x1_S512x512_1_0_0_1.window (ix2 p q) 0 = 0 := rfl
    have w1 : scatter_S512x512_S512x1_S512x512_1_0_0_1.window (ix2 p q) 1 = q.val := rfl
    refine (Routing.resultIdx?_ix2 _ _ idx i c).trans ?_
    rw [h0, h1, w0, w1]
    omega
  refine Routing.scatter_set_hit _ x idx g (ix2 i c) (g (ix2 i c)) ?_ (ix2 i c) ((hr i c).2 ⟨rfl, rfl⟩)
  intro k hk
  rw [eq_ix2 k] at hk ⊢
  obtain ⟨e1, e2⟩ := (hr _ _).1 hk
  rw [e1, e2]

end Cert.Sorted

end
-- ==== Proof.RefRow.lean ====
/- The reference's value at a row, and its mean over the rows. -/
module

public import proofs.«01_k».proof.Proof.RefReads
public import proofs.«01_k».proof.Proof.Sorted
public import proofs.«01_k».proof.Proof.KernelRow

@[expose] public section

noncomputable section

namespace Cert.RefRow

open Cert.ReferenceIdeal Cert.ReferenceIdeal.Gen Idealize.ShloMosaic Cert.RefStages Cert.RefReads Cert.Sorted Finset Cert.Reals Cert.Row Cert.Lane Cert.LaneRow

/-- A set with more members than another has one outside it. -/
theorem outside {A B : Finset (Fin 512)} (h : A.card < B.card) : ∃ b ∈ B, b ∉ A := by
  by_contra hc
  push Not at hc
  exact absurd (card_le_card fun b hb => hc b hb) (not_le.2 h)

/-- A place not in a set makes room for one outside it. -/
theorem outside_of {A B : Finset (Fin 512)} {a : Fin 512} (ha : a ∈ A) (hn : a ∉ B) (h : A.card ≤ B.card) : ∃ b ∈ B, b ∉ A := by
  by_contra hc
  push Not at hc
  have : B ⊂ A := (Finset.ssubset_iff_of_subset fun b hb => hc b hb).2 ⟨a, ha, hn⟩
  exact absurd (card_lt_card this) (not_lt.2 h)

section sets
variable (σ : Fin 512 → ℝ) (hσ : ∀ j, -1 ≤ σ j ∧ σ j ≤ 1) (L : Fin 16)
include hσ

/-- The eight first of the ascending candidates are eight least positives. -/
theorem least (q : Fin 512 → EReal) (hq : ∀ k, q k = (((if k ∈ pos L then σ k else 10000 : ℝ)) : EReal)) :
    first (by decide : 8 ≤ 512) (lt q) ⊆ pos L ∧ ∀ a ∈ first (by decide : 8 ≤ 512) (lt q), ∀ b ∈ pos L, b ∉ first (by decide : 8 ≤ 512) (lt q) → σ a ≤ σ b := by
  have key : ∀ a ∈ first (by decide : 8 ≤ 512) (lt q), ∀ b, b ∉ first (by decide : 8 ≤ 512) (lt q) →
      (if a ∈ pos L then σ a else 10000 : ℝ) ≤ (if b ∈ pos L then σ b else 10000 : ℝ) := by
    intro a ha b hb
    have := not_lt.1 (of_decide_eq_false (first_le _ (lt q) (lt_asymm q) (lt_neg q) a b ha hb))
    rw [hq, hq] at this
    exact EReal.coe_le_coe_iff.1 this
  have hsub : first (by decide : 8 ≤ 512) (lt q) ⊆ pos L := by
    intro a ha
    by_contra hn
    obtain ⟨b, hb, hb'⟩ := outside (A := first (by decide : 8 ≤ 512) (lt q)) (B := pos L) (by rw [first_card, card_pos32]; decide)
    have := key a ha b hb'
    rw [if_neg hn, if_pos hb] at this
    linarith [(hσ b).2]
  refine ⟨hsub, fun a ha b hb hb' => ?_⟩
  have := key a ha b hb'
  rwa [if_pos (hsub ha), if_pos hb] at this

/-- The thirty-two first of the descending candidates are thirty-two greatest non-positives. -/
theorem hardest (q : Fin 512 → EReal) (hq : ∀ k, q k = (((if k ∈ pos L then -10000 else σ k : ℝ)) : EReal)) :
    (∀ j ∈ first (by decide : 32 ≤ 512) (fun a b => lt q b a), j ∉ pos L)
      ∧ ∀ a ∈ first (by decide : 32 ≤ 512) (fun a b => lt q b a), ∀ b, b ∉ pos L → b ∉ first (by decide : 32 ≤ 512) (fun a b => lt q b a) → σ b ≤ σ a := by
  have key : ∀ a ∈ first (by decide : 32 ≤ 512) (fun a b => lt q b a), ∀ b, b ∉ first (by decide : 32 ≤ 512) (fun a b => lt q b a) →
      (if b ∈ pos L then -10000 else σ b : ℝ) ≤ (if a ∈ pos L then -10000 else σ a : ℝ) := by
    intro a ha b hb
    have := not_lt.1 (of_decide_eq_false (first_le _ (fun a b => lt q b a) (fun a b => lt_asymm q b a)
      (fun a b c h h' => lt_neg q c b a h' h) a b ha hb))
    rw [hq, hq] at this
    exact EReal.coe_le_coe_iff.1 this
  have hsub : ∀ j ∈ first (by decide : 32 ≤ 512) (fun a b => lt q b a), j ∉ pos L := by
    intro a ha hn
    obtain ⟨b, hb, hb'⟩ := outside (A := first (by decide : 32 ≤ 512) (fun a b => lt q b a)) (B := univ \ pos L)
      (by rw [first_card, card_neg]; decide)
    have := key a ha b hb'
    rw [if_pos hn, if_neg (mem_sdiff.1 hb).2] at this
    linarith [(hσ b).1]
  refine ⟨hsub, fun a ha b hb hb' => ?_⟩
  have := key a ha b hb'
  rwa [if_neg (hsub a ha), if_neg hb] at this

end sets

/-- The thirty-two greatest draws of the non-positives are the chosen ones, when those are thirty-two and above the rest. -/
theorem drawn (L : Fin 16) (C : Finset (Fin 512)) (r q : Fin 512 → EReal) (hq : ∀ k, q k = if k ∈ pos L then (((-1 : ℝ)) : EReal) else r k)
    (h0 : ∀ k, 0 ≤ r k) (hC : C.card = 32) (hP : ∀ j ∈ C, j ∉ pos L) (hr : ∀ a ∈ C, ∀ b, b ∉ pos L → b ∉ C → r b < r a) :
    first (by decide : 32 ≤ 512) (fun a b => lt q b a) = C := by
  refine (eq_of_subset_of_card_le ?_ (by rw [first_card, hC])).symm
  intro c hc
  by_contra hn
  obtain ⟨d, hd, hd'⟩ := outside_of (A := C) (B := first (by decide : 32 ≤ 512) (fun a b => lt q b a)) hc hn (by rw [first_card, hC])
  have := not_lt.1 (of_decide_eq_false (first_le _ (fun a b => lt q b a) (fun a b => lt_asymm q b a)
      (fun a b c h h' => lt_neg q c b a h' h) d c hd hn))
  rw [hq, hq, if_neg (hP c hc)] at this
  by_cases hdp : d ∈ pos L
  · rw [if_pos hdp] at this
    have h1 : (((-1 : ℝ)) : EReal) < 0 := by exact_mod_cast (by norm_num : (-1 : ℝ) < 0)
    exact absurd ((h0 c).trans this) (not_le.2 h1)
  · rw [if_neg hdp] at this
    exact absurd this (not_le.2 (hr c hc d hdp hd'))

/-- A logit is its similarity over the temperature. -/
theorem over_T (z : ℝ) : Ideal.div (z : EReal) (((13421773 / 16777216 : ℝ)) : EReal) = ((z * iT : ℝ) : EReal) := by
  rw [div_coe _ _ (by norm_num)]
  congr 1
  unfold iT
  field_simp

/-- A cross entropy over thirty-three logits. -/
theorem cross (x : ℝ) (n : Fin 32 → ℝ) (g : Fin 33 → EReal) (h0 : g 0 = ((x * iT : ℝ) : EReal)) (hn : ∀ c : Fin 32, g c.succ = ((n c * iT : ℝ) : EReal)) :
    (Ideal.log (∑ c, Ideal.exp (g c)) - g 0 : EReal)
      = ((Real.log (Real.exp (x * iT) + ∑ c, Real.exp (n c * iT)) - x * iT : ℝ) : EReal) := by
  have e : (∑ c, Ideal.exp (g c) : EReal) = ((Real.exp (x * iT) + ∑ c, Real.exp (n c * iT) : ℝ) : EReal) := by
    rw [Fin.sum_univ_succ, h0, Ideal.exp_coe, EReal.coe_add, coe_sum]
    congr 1
    exact sum_congr rfl fun c _ => by rw [hn, Ideal.exp_coe]
  rw [e, log_pos _ (by positivity), h0, ← EReal.coe_sub]

/-- The sum of a row's sixteen cross entropies. -/
theorem entropy_row (l : FVec Ideal S512x8 .f32) (n n' : FVec Ideal S512x32 .f32) (i : Fin 512) (x : Fin 8 → ℝ) (y y' : Fin 32 → ℝ)
    (hx : ∀ a, l (ix2 i a) = (x a : EReal)) (hy : ∀ c, n (ix2 i c) = (y c : EReal)) (hy' : ∀ c, n' (ix2 i c) = (y' c : EReal)) :
    (∑ a : Fin 16, entropy (logits (beside l n) (beside l n')) (ix2 i a) : EReal)
      = ((∑ a, cost (∑ c, Real.exp (y c * iT)) (∑ c, Real.exp (y' c * iT)) (x a) : ℝ) : EReal) := by
  have h1 : ∀ a : Fin 8, entropy (logits (beside l n) (beside l n')) (ix2 i (Fin.castAdd 8 a : Fin 16))
      = ((Real.log (Real.exp (x a * iT) + ∑ c, Real.exp (y c * iT)) - x a * iT : ℝ) : EReal) := by
    intro a
    rw [entropy_apply]
    refine cross (x a) y _ ?_ fun c => ?_
    · rw [logits_apply, dif_pos (show (Fin.castAdd 8 a : Fin 16).val < 8 from a.isLt), beside_apply, dif_pos (by decide)]
      refine (congrArg (fun z => Ideal.div z _) (hx a)).trans (over_T _)
    · rw [logits_apply, dif_pos (show (Fin.castAdd 8 a : Fin 16).val < 8 from a.isLt), beside_apply, dif_neg (by simp)]
      refine (congrArg (fun z => Ideal.div z _) (hy c)).trans (over_T _)
  have h2 : ∀ a : Fin 8, entropy (logits (beside l n) (beside l n')) (ix2 i (Fin.natAdd 8 a : Fin 16))
      = ((Real.log (Real.exp (x a * iT) + ∑ c, Real.exp (y' c * iT)) - x a * iT : ℝ) : EReal) := by
    intro a
    have hs : (⟨(Fin.natAdd 8 a : Fin 16).val - 8, by simp⟩ : Fin 8) = a := Fin.ext (by simp)
    rw [entropy_apply]
    refine cross (x a) y' _ ?_ fun c => ?_
    · rw [logits_apply, dif_neg (by simp), beside_apply, dif_pos (by decide)]
      refine (congrArg (fun z => Ideal.div z _) ((congrArg (fun z => l (ix2 i z)) hs).trans (hx a))).trans (over_T _)
    · rw [logits_apply, dif_neg (by simp), beside_apply, dif_neg (by simp)]
      refine (congrArg (fun z => Ideal.div z _) (hy' c)).trans (over_T _)
  rw [Fin.sum_univ_add (a := 8) (b := 8) (fun a : Fin 16 => (entropy (logits (beside l n) (beside l n')) (ix2 i a) : EReal)), sum_congr rfl fun a _ => h1 a, sum_congr rfl fun a _ => h2 a, ← coe_sum, ← coe_sum, ← EReal.coe_add,
    ← sum_add_distrib]
  congr 1
  refine sum_congr rfl fun a _ => ?_
  unfold cost
  ring

/-- A gather index that is a place is inside. -/
theorem inside_of (p : IVec S512x32x1 32) (i : Fin 512) (c : Fin 32) (b : Fin 512) (h : p (ix3 i c 0) = BitVec.ofNat 32 b.val) : inside p (ix2 i c) = 1#1 := by
  rw [inside_apply]
  have hb : (BitVec.ofNat 32 b.val).toInt = b.val := by
    have := b.isLt
    rw [BitVec.toInt_eq_toNat_of_lt (by rw [BitVec.toNat_ofNat]; omega), BitVec.toNat_ofNat]
    omega
  have e : (univ : Finset (Fin 1)) = {0} := rfl
  rw [e, fold_singleton, h]
  have h1 : IntOp.cmpi .sge (BitVec.ofNat 32 b.val) 0#32 = 1#1 := by
    show BitVec.ofBool (BitVec.sle 0#32 (BitVec.ofNat 32 b.val)) = 1#1
    rw [show BitVec.sle 0#32 (BitVec.ofNat 32 b.val) = true by rw [BitVec.sle_iff_toInt_le, hb]; simp]
    rfl
  have h2 : IntOp.cmpi .sle (BitVec.ofNat 32 b.val) 511#32 = 1#1 := by
    show BitVec.ofBool (BitVec.sle (BitVec.ofNat 32 b.val) 511#32) = 1#1
    rw [show BitVec.sle (BitVec.ofNat 32 b.val) 511#32 = true by
      rw [BitVec.sle_iff_toInt_le, hb]
      have := b.isLt
      show (b.val : ℤ) ≤ 511
      omega]
    rfl
  rw [h1, h2]
  rfl

/-- A place is not wrapped. -/
theorem wrap (b : Fin 512) (z : BitVec 32) : Scalar.select (IntOp.cmpi .slt (BitVec.ofNat 32 b.val) 0#32) z (BitVec.ofNat 32 b.val) = BitVec.ofNat 32 b.val := by
  refine Routing.wrap_of_lt _ _ ?_
  have := b.isLt
  rw [BitVec.toNat_ofNat]
  norm_num
  omega

/-- The mean from the valid rows' sums. -/
theorem mean_total (V : Fin 512 → Prop) [DecidablePred V] (v : IVec S512 1) (l : FVec Ideal S512x16 .f32) (Y : Fin 512 → ℝ)
    (hv : ∀ i, v (ix1 i) = BitVec.ofBool (decide (V i))) (hY : ∀ i, V i → (∑ a, l (ix2 i a) : EReal) = (Y i : EReal)) :
    shapeCast S1x1 (mean v l) shapeCasts_S_S1x1 (ix2 0 0) = Cert.KernelRow.total V Y := by
  have hu : ∀ i, (FloatOps.uitofp (F := Ideal) .f32 (v (ix1 i)) : EReal) = (((if V i then 1 else 0 : ℝ)) : EReal) := by
    intro i
    rw [hv]
    refine (uitofp_bool _).trans ?_
    simp
  have hs : ∀ i, (∑ a, l (ix2 i a) * FloatOps.uitofp (F := Ideal) .f32 (v (ix1 i)) : EReal) = (((if V i then Y i else 0 : ℝ)) : EReal) := by
    intro i
    rw [hu]
    by_cases h : V i
    · rw [if_pos h, if_pos h, EReal.coe_one, ← hY i h]
      exact sum_congr rfl fun a _ => mul_one _
    · rw [if_neg h, if_neg h, EReal.coe_zero]
      exact sum_eq_zero fun a _ => mul_zero _
  rw [mean_apply, sum_congr rfl fun i _ => hs i, sum_congr rfl fun i _ => hu i]
  unfold Cert.KernelRow.total
  have e : ∀ z : ℝ, ((z : EReal) * (((2 : ℝ)) : EReal) * (((8 : ℝ)) : EReal)) = (z : EReal) * (((16 : ℝ)) : EReal) := by
    intro z
    rw [← EReal.coe_mul, ← EReal.coe_mul, ← EReal.coe_mul]
    congr 1
    ring
  rw [← coe_sum univ fun i => (if V i then 1 else 0 : ℝ), e]

end Cert.RefRow

end
-- ==== Proof.RefValue.lean ====
/- The reference's rows and its result. -/
module

public import proofs.«01_k».proof.Proof.RefRow

@[expose] public section

noncomputable section

namespace Cert.RefValue

open Cert.ReferenceIdeal Cert.ReferenceIdeal.Gen Idealize.ShloMosaic Cert.RefStages Cert.RefReads Cert.Sorted Finset Cert.Reals Cert.Row Cert.Lane Cert.LaneRow Cert.RefRow

/-- A row's sum of cross entropies is the row's sum of costs. -/
theorem row (p n s A8 : FVec Ideal S512x512 .f32) (i : Fin 512) (L : Fin 16) (σ : Fin 512 → ℝ) (hσ : ∀ j, -1 ≤ σ j ∧ σ j ≤ 1) (C : Finset (Fin 512))
    (hs : ∀ j, s (ix2 i j) = (σ j : EReal)) (hp : ∀ j, p (ix2 i j) = (((if j ∈ pos L then 1 else 0 : ℝ)) : EReal))
    (hn : ∀ j, n (ix2 i j) = (((if j ∈ pos L then 0 else 1 : ℝ)) : EReal))
    (h0 : ∀ j, (0 : EReal) ≤ A8 (ix2 i j)) (hC : C.card = 32) (hP : ∀ j ∈ C, j ∉ pos L)
    (hr : ∀ a ∈ C, ∀ b, b ∉ pos L → b ∉ C → (A8 (ix2 i b) : EReal) < A8 (ix2 i a)) :
    ∃ y, Row σ (pos L) C y ∧ (∑ a, entropy (logits (beside (least8 p s) (top32 (some? n) s 0xC61C4000#32).1)
      (beside (least8 p s) (taken s (places (top32 (some? n) A8 0xBF800000#32).2)))) (ix2 i a) : EReal) = (y : EReal) := by
  have hm : ∀ j, some? n (ix2 i j) = 1#1 ↔ j ∉ pos L := by
    intro j
    rw [some_apply, hn]
    by_cases h : j ∈ pos L <;> simp [h]
  -- the candidates
  have q1 : ∀ k, posRow p s (ix2 i k) = (((if k ∈ pos L then σ k else 10000 : ℝ)) : EReal) := by
    intro k
    rw [posRow_apply, hp, hs]
    by_cases h : k ∈ pos L <;> simp [h]
  obtain ⟨z2, hz2⟩ : ∃ z : FVec Ideal S512x512 .f32, z = select (some? n) s (broadcastInDim S512x512 ![] bcast_S_S512x512 (id (constant S_ .f32 0xC61C4000#32))) := ⟨_, rfl⟩
  have q2 : ∀ k, z2 (ix2 i k) = (((if k ∈ pos L then -10000 else σ k : ℝ)) : EReal) := by
    intro k
    rw [hz2, masked_apply, cn1e4, hs]
    by_cases h : k ∈ pos L
    · rw [if_neg (fun hh => (hm k).1 hh h), if_pos h]
    · rw [if_pos ((hm k).2 h), if_neg h]
  obtain ⟨z3, hz3⟩ : ∃ z : FVec Ideal S512x512 .f32, z = select (some? n) A8 (broadcastInDim S512x512 ![] bcast_S_S512x512 (id (constant S_ .f32 0xBF800000#32))) := ⟨_, rfl⟩
  have q3 : ∀ k, z3 (ix2 i k) = if k ∈ pos L then (((-1 : ℝ)) : EReal) else A8 (ix2 i k) := by
    intro k
    rw [hz3, masked_apply, cn1]
    by_cases h : k ∈ pos L
    · rw [if_neg (fun hh => (hm k).1 hh h), if_pos h]
    · rw [if_pos ((hm k).2 h), if_neg h]
  obtain ⟨a1, a2⟩ := least σ hσ L (fun k => posRow p s (ix2 i k)) q1
  obtain ⟨b1, b2⟩ := hardest σ hσ L (fun k => z2 (ix2 i k)) q2
  have d := drawn L C (fun k => A8 (ix2 i k)) (fun k => z3 (ix2 i k)) q3 h0 hC hP hr
  -- the entries
  have hx : ∀ a : Fin 8, least8 p s (ix2 i a) = ((σ (sortedFrom (lt fun k => posRow p s (ix2 i k)) (a.castLE (by decide))) : ℝ) : EReal) := by
    intro a
    rw [least8_apply, sort_apply, q1, if_pos (a1 (mem_first _ _ a))]
  have hy : ∀ c : Fin 32, (top32 (some? n) s 0xC61C4000#32).1 (ix2 i c)
      = ((σ (sortedFrom (fun a b => lt (fun k => z2 (ix2 i k)) b a) (c.castLE (by decide))) : ℝ) : EReal) := by
    intro c
    unfold top32
    rw [← hz2, topK_val, q2, if_neg (b1 _ (mem_first _ _ c))]
  have hp' : ∀ c : Fin 32, places (top32 (some? n) A8 0xBF800000#32).2 (ix3 i c 0)
      = BitVec.ofNat 32 (sortedFrom (fun a b => lt (fun k => z3 (ix2 i k)) b a) (c.castLE (by decide))).val := by
    intro c
    have e : (top32 (some? n) A8 0xBF800000#32).2 (ix2 i c)
        = BitVec.ofNat 32 (sortedFrom (fun a b => lt (fun k => z3 (ix2 i k)) b a) (c.castLE (by decide))).val := by
      unfold top32
      rw [← hz3, topK_idx]
    rw [places_apply, e, wrap]
  have hy' : ∀ c : Fin 32, taken s (places (top32 (some? n) A8 0xBF800000#32).2) (ix2 i c)
      = ((σ (sortedFrom (fun a b => lt (fun k => z3 (ix2 i k)) b a) (c.castLE (by decide))) : ℝ) : EReal) := by
    intro c
    rw [taken_apply _ _ _ _ (inside_of _ _ _ _ (hp' c)), gather_apply _ _ _ _ _ (hp' c), hs]
  refine ⟨∑ j ∈ first (by decide : 8 ≤ 512) (lt fun k => posRow p s (ix2 i k)),
    cost (expSum σ (first (by decide : 32 ≤ 512) (fun a b => lt (fun k => z2 (ix2 i k)) b a))) (expSum σ C) (σ j),
    ⟨first (by decide : 8 ≤ 512) (lt fun k => posRow p s (ix2 i k)), first (by decide : 32 ≤ 512) (fun a b => lt (fun k => z2 (ix2 i k)) b a),
    first_card _ _, first_card _ _, a1, b1, a2, b2, rfl⟩, ?_⟩
  refine (entropy_row _ _ _ i _ _ _ hx hy hy').trans (congrArg (fun z : ℝ => (z : EReal)) ?_)
  have e2 : ∑ c : Fin 32, Real.exp (σ (sortedFrom (fun a b => lt (fun k => z2 (ix2 i k)) b a) (c.castLE (by decide))) * iT) = expSum σ _ :=
    first_sum (by decide : 32 ≤ 512) (fun a b => lt (fun k => z2 (ix2 i k)) b a) fun j => Real.exp (σ j * iT)
  have e3 : ∑ c : Fin 32, Real.exp (σ (sortedFrom (fun a b => lt (fun k => z3 (ix2 i k)) b a) (c.castLE (by decide))) * iT) = expSum σ _ :=
    first_sum (by decide : 32 ≤ 512) (fun a b => lt (fun k => z3 (ix2 i k)) b a) fun j => Real.exp (σ j * iT)
  rw [d] at e3
  rw [e2, e3]
  generalize cost (expSum σ _) (expSum σ C) = f
  exact first_sum (by decide : 8 ≤ 512) (lt fun k => posRow p s (ix2 i k)) fun j => f (σ j)

/-- A row with one of the sixteen labels counts. -/
theorem valid_of (p n : FVec Ideal S512x512 .f32) (i : Fin 512) (L : Fin 16)
    (hp : ∀ j, p (ix2 i j) = (((if j ∈ pos L then 1 else 0 : ℝ)) : EReal))
    (hn : ∀ j, n (ix2 i j) = (((if j ∈ pos L then 0 else 1 : ℝ)) : EReal)) : valid p n (ix1 i) = 1#1 := by
  have e1 : (∑ j, p (ix2 i j) : EReal) = ((32 : ℝ) : EReal) := by
    rw [sum_congr rfl fun j _ => hp j, sum_count]
    congr 1
    rw [filter_mem_eq_inter, univ_inter, card_pos32]
    norm_num
  have e2 : (∑ j, n (ix2 i j) : EReal) = ((480 : ℝ) : EReal) := by
    have e : ∀ j, n (ix2 i j) = (((if j ∉ pos L then 1 else 0 : ℝ)) : EReal) := by
      intro j
      rw [hn]
      by_cases h : j ∈ pos L <;> simp [h]
    rw [sum_congr rfl fun j _ => e j, sum_count]
    congr 1
    have : (univ.filter fun j => j ∉ pos L) = univ \ pos L := by
      ext j
      simp
    rw [this, card_neg]
    norm_num
  rw [valid_apply, e1, e2]
  have h1 : (((8 : ℝ)) : EReal) ≤ ((32 : ℝ) : EReal) := EReal.coe_le_coe_iff.2 (by norm_num)
  have h2 : (((32 : ℝ)) : EReal) ≤ ((480 : ℝ) : EReal) := EReal.coe_le_coe_iff.2 (by norm_num)
  simp only [decide_eq_true h1, decide_eq_true h2]
  rfl

/-- A row whose label no slot has does not count. -/
theorem not_valid_of (p n : FVec Ideal S512x512 .f32) (i : Fin 512) (hp : ∀ j, p (ix2 i j) = (0 : EReal)) : valid p n (ix1 i) = 0#1 := by
  rw [valid_apply, sum_congr rfl fun j _ => hp j, sum_const_zero]
  have h1 : ¬ (((8 : ℝ)) : EReal) ≤ 0 := not_le.2 (by exact_mod_cast (by norm_num : (0 : ℝ) < 8))
  simp only [decide_eq_false h1]
  rw [show BitVec.ofBool false = 0#1 from rfl]
  exact BitVec.zero_and

/-- The result, given the similarities and what is assumed of the labels, the slots and the draws. -/
theorem out_total (A0 A3 A5 A8 : FVec Ideal S512x512 .f32) (A1 A2 A7 : IVec S512 32) (A4 A6 : FVec Ideal S512 .f32) (σ : Fin 512 → Fin 512 → ℝ)
    (hσ : ∀ i j, -1 ≤ σ i j ∧ σ i j ≤ 1) (hS : ∀ i j, RefStages.S A0 A2 A3 A4 A5 (ix2 i j) = (σ i j : EReal))
    (h2 : ∀ i : Fin 512, A2 (ix1 i) = BitVec.ofNat 32 i.val) (h7 : ∀ j : Fin 512, A7 (ix1 j) = BitVec.ofNat 32 (j.val % 16))
    (C : Fin 512 → Finset (Fin 512)) (Y : Fin 512 → ℝ) (h0 : ∀ i j, (0 : EReal) ≤ A8 (ix2 i j))
    (hC : ∀ (i : Fin 512) (L : Fin 16), A1 (ix1 i) = BitVec.ofNat 32 L.val → (C i).card = 32 ∧ (∀ j ∈ C i, j ∉ pos L)
      ∧ (∀ a ∈ C i, ∀ b, b ∉ pos L → b ∉ C i → (A8 (ix2 i b) : EReal) < A8 (ix2 i a)) ∧ Row (σ i) (pos L) (C i) (Y i)) :
    out A0 A1 A2 A3 A4 A5 A6 A7 A8 (ix2 0 0) = Cert.KernelRow.total (fun i => ∃ L : Fin 16, A1 (ix1 i) = BitVec.ofNat 32 L.val) Y := by
  have hlab : ∀ (i j : Fin 512) (L : Fin 16), A1 (ix1 i) = BitVec.ofNat 32 L.val → (A1 (ix1 i) = A7 (ix1 j) ↔ j ∈ pos L) := by
    intro i j L hL
    have := L.isLt
    rw [hL, h7, mem_pos]
    constructor
    · intro h
      have h' := congrArg BitVec.toNat h
      rw [BitVec.toNat_ofNat, BitVec.toNat_ofNat] at h'
      omega
    · intro h
      rw [h]
  have hsl : ∀ i : Fin 512, slots A2 (ix2 i 0) = BitVec.ofNat 32 i.val := by
    intro i
    rw [slots_apply, h2, wrap]
  have hfill : ∀ i j, filled A6 (slots A2) (ix2 i j) = (1 : EReal) := by
    intro i j
    rw [filled_apply]
    refine (Routing.scatter_set_signed (N := 512) scatter_S512_S512x1_S512_n_0_0_1 rfl rfl rfl A6 (slots A2) _ j (1 : EReal) fun k _ => ?_).1 ⟨j, ?_⟩
    · exact Ideal.ofBits_one_f32
    · refine (congrArg BitVec.toInt (hsl j)).trans ?_
      have := j.isLt
      rw [BitVec.toInt_eq_toNat_of_lt (by rw [BitVec.toNat_ofNat]; omega), BitVec.toNat_ofNat]
      omega
  have hp : ∀ (i : Fin 512) (L : Fin 16), A1 (ix1 i) = BitVec.ofNat 32 L.val → ∀ j, RefStages.P A1 A2 A6 A7 (ix2 i j) = (((if j ∈ pos L then 1 else 0 : ℝ)) : EReal) := by
    intro i L hL j
    refine (posW_apply _ A1 A7 i j (hfill i j)).trans ?_
    simp only [hlab i j L hL]
  have hn : ∀ (i : Fin 512) (L : Fin 16), A1 (ix1 i) = BitVec.ofNat 32 L.val → ∀ j, RefStages.N A1 A2 A6 A7 (ix2 i j) = (((if j ∈ pos L then 0 else 1 : ℝ)) : EReal) := by
    intro i L hL j
    refine (negW_apply _ A1 A7 i j (hfill i j)).trans ?_
    simp only [hlab i j L hL]
  unfold out
  refine mean_total _ _ _ Y (fun i => ?_) fun i hV => ?_
  · by_cases hV : ∃ L : Fin 16, A1 (ix1 i) = BitVec.ofNat 32 L.val
    · obtain ⟨L, hL⟩ := hV
      rw [valid_of _ _ i L (hp i L hL) (hn i L hL), decide_eq_true ⟨L, hL⟩]
      rfl
    · rw [not_valid_of _ _ i fun j => ?_, decide_eq_false hV]
      · rfl
      · refine (posW_apply _ A1 A7 i j (hfill i j)).trans ?_
        rw [if_neg fun h => hV ⟨⟨j.val % 16, by omega⟩, h.trans (h7 j)⟩]
        rfl
  · obtain ⟨L, hL⟩ := hV
    obtain ⟨c1, c2, c3, c4⟩ := hC i L hL
    obtain ⟨y, hy, he⟩ := row (RefStages.P A1 A2 A6 A7) (RefStages.N A1 A2 A6 A7) (RefStages.S A0 A2 A3 A4 A5) A8 i L (σ i) (hσ i) (C i) (hS i) (hp i L hL) (hn i L hL) (h0 i) c1 c2 c3
    rw [he, row_unique (σ i) (hσ i) (pos L) (C i) y (Y i) hy c4]

end Cert.RefValue

end
-- ==== Proof.KernelValue.lean ====
/- The kernel's run: its one result ends holding the body's value at the argument arrays, which end unchanged. -/
module

public import proofs.«01_k».proof.Proof.Chain

@[expose] public section

noncomputable section

namespace Cert.KernelValue

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The bias as the launch reads it: one row. -/
abbrev biasRow (c : Dev nD) : FVec F S1x512 .f32 :=
  shapeCast S1x512 (show FVec F S512 .f32 from m ((c : Thread nD τ).loc main_arg4)) shapeCasts_S512_S1x512

/-- The labels as the launch reads them: one row. -/
abbrev labelRow (c : Dev nD) : IVec S1x512 32 :=
  shapeCast S1x512 (show IVec S512 32 from m ((c : Thread nD τ).loc main_arg1)) shapeCasts_S512_S1x512

/-- The body's value at device `c`'s argument arrays. -/
def kRes (c : Dev nD) : FVec F S1x1 .f32 :=
  Chain.kOut (m ((c : Thread nD τ).loc main_arg0)) (m ((c : Thread nD τ).loc main_arg3)) (biasRow m c)
    (labelRow m c) (m ((c : Thread nD τ).loc main_arg9)) (m ((c : Thread nD τ).loc main_arg10))

/-- The region finds the bias laid out as one row. -/
theorem V_main_v0 (c : Dev nD) : V m c main_v0 = biasRow m c := by
  show StableHlo.after hostOps0 _ (Proc.devRef .tc main_v0) = _
  after_results
  rfl

/-- The region finds the labels laid out as one row. -/
theorem V_main_v1 (c : Dev nD) : V m c main_v1 = labelRow m c := by
  show StableHlo.after hostOps0 _ (Proc.devRef .tc main_v1) = _
  after_results
  rfl

/-- The window of this operand is the whole array: a position in it is the same position in the array. -/
theorem emb0 (t : Fin cfg0.N) (j : S512x512.Idx) : (win0_0.rect t).emb j = j := by
  funext a
  apply Fin.ext
  exact win0_0.rect_emb_val_of_index_zero t a rfl j

/-- The window of this operand is the whole array: a position in it is the same position in the array. -/
theorem emb1 (t : Fin cfg0.N) (j : S512x512.Idx) : (win0_1.rect t).emb j = j := by
  funext a
  apply Fin.ext
  exact win0_1.rect_emb_val_of_index_zero t a rfl j

/-- The window of this operand is the whole array: a position in it is the same position in the array. -/
theorem emb2 (t : Fin cfg0.N) (j : S1x512.Idx) : (win0_2.rect t).emb j = j := by
  funext a
  apply Fin.ext
  exact win0_2.rect_emb_val_of_index_zero t a rfl j

/-- The window of this operand is the whole array: a position in it is the same position in the array. -/
theorem emb3 (t : Fin cfg0.N) (j : S1x512.Idx) : (win0_3.rect t).emb j = j := by
  funext a
  apply Fin.ext
  exact win0_3.rect_emb_val_of_index_zero t a rfl j

/-- The window of this operand is the whole array: a position in it is the same position in the array. -/
theorem emb4 (t : Fin cfg0.N) (j : S512x512.Idx) : (win0_4.rect t).emb j = j := by
  funext a
  apply Fin.ext
  exact win0_4.rect_emb_val_of_index_zero t a rfl j

/-- The window of this operand is the whole array: a position in it is the same position in the array. -/
theorem emb5 (t : Fin cfg0.N) (j : S16x512.Idx) : (win0_5.rect t).emb j = j := by
  funext a
  apply Fin.ext
  exact win0_5.rect_emb_val_of_index_zero t a rfl j

/-- The block of this operand that the body reads is the argument itself, laid out as the launch has it. -/
theorem iblk0 (c : Dev nD) (t : Fin cfg0.N) : iblk m c 0 t = m ((c : Thread nD τ).loc main_arg0) := by
  funext j
  show (V m c main_arg0) ((win0_0.rect t).emb j) = _
  rw [emb0, V_main_arg0]

/-- The block of this operand that the body reads is the argument itself, laid out as the launch has it. -/
theorem iblk1 (c : Dev nD) (t : Fin cfg0.N) : iblk m c 1 t = m ((c : Thread nD τ).loc main_arg3) := by
  funext j
  show (V m c main_arg3) ((win0_1.rect t).emb j) = _
  rw [emb1, V_main_arg3]

/-- The block of this operand that the body reads is the argument itself, laid out as the launch has it. -/
theorem iblk2 (c : Dev nD) (t : Fin cfg0.N) : iblk m c 2 t = biasRow m c := by
  funext j
  show (V m c main_v0) ((win0_2.rect t).emb j) = _
  rw [emb2, V_main_v0]

/-- The block of this operand that the body reads is the argument itself, laid out as the launch has it. -/
theorem iblk3 (c : Dev nD) (t : Fin cfg0.N) : iblk m c 3 t = labelRow m c := by
  funext j
  show (V m c main_v1) ((win0_3.rect t).emb j) = _
  rw [emb3, V_main_v1]

/-- The block of this operand that the body reads is the argument itself, laid out as the launch has it. -/
theorem iblk4 (c : Dev nD) (t : Fin cfg0.N) : iblk m c 4 t = m ((c : Thread nD τ).loc main_arg9) := by
  funext j
  show (V m c main_arg9) ((win0_4.rect t).emb j) = _
  rw [emb4, V_main_arg9]

/-- The block of this operand that the body reads is the argument itself, laid out as the launch has it. -/
theorem iblk5 (c : Dev nD) (t : Fin cfg0.N) : iblk m c 5 t = m ((c : Thread nD τ).loc main_arg10) := by
  funext j
  show (V m c main_arg10) ((win0_5.rect t).emb j) = _
  rw [emb5, V_main_arg10]

/-- The window of this operand is the whole array: a position in it is the same position in the array. -/
theorem emb6 (t : Fin cfg0.N) (j : S1x1.Idx) : (win0_6.rect t).emb j = j := by
  funext a
  apply Fin.ext
  exact win0_6.rect_emb_val_of_index_zero t a rfl j

/-- The result array ends holding the body's value. -/
theorem final (c : Dev nD) : (dats m 0 c).arrAt 6 cfg0.N = kRes m c := by
  funext j
  have h := congrFun (Value.blocks6 m c t0_0 (flush0_6 _)) j
  rw [Value.flushed6, Chain.out_eq, iblk0, iblk1, iblk2, iblk3, iblk4, iblk5] at h
  have h' : (dats m 0 c).arrAt 6 cfg0.N ((win0_6.rect t0_0).emb j) = kRes m c j := h
  rwa [emb6] at h'

/-- The run: the result at the body's value, every argument as launched. -/
theorem run : θ_run defs (onTc (τ := τ) (main (F := F))) ⟨m, fun _ => 0, ρ⟩ fun r => ∀ c : Dev nD,
      r.2.mem ((c : Thread nD τ).loc main_v2) = kRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelValue

end
-- ==== Proof.Final.lean ====
/- The kernel's value and the reference's, of the same arguments. -/
module

public import proofs.«01_k».proof.Proof.PreDecode
public import proofs.«01_k».proof.Proof.RefValue
public import proofs.«01_k».proof.Proof.KernelValue

@[expose] public section

noncomputable section

namespace Cert.Final

open Cert.KernelIdeal Cert.KernelIdeal.Gen Idealize.ShloMosaic Finset Cert.Reals Cert.Row Cert.Lane Cert.LaneRow

/-- A projected entry, before its row is scaled to norm one. -/
def proj (A0 A3 : FVec Ideal S512x512 .f32) (A4 : FVec Ideal S512 .f32) (i k : Fin 512) : EReal := ∑ l, A0 (ix2 i l) * A3 (ix2 k l) + A4 (ix1 k)

/-- The kernel's similarities, from the scaled rows. -/
theorem pay2_apply (A0 A3 : FVec Ideal S512x512 .f32) (A4 : FVec Ideal S512 .f32) (x2 : FVec Ideal S1x512 .f32) (h2 : ∀ k, x2 (ix2 0 k) = A4 (ix1 k))
    (u : Fin 512 → Fin 512 → ℝ) (hu : ∀ i k, proj A0 A3 A4 i k * Ideal.rsqrt (∑ k, proj A0 A3 A4 i k * proj A0 A3 A4 i k) = (u i k : EReal)) (i j : Fin 512) :
    k0_pay2 (F := Ideal) A0 A3 x2 (ix2 j i) = ((∑ k, u i k * u j k : ℝ) : EReal) := by
  unfold proj at hu
  pointwise [k0_pay2]
  simp only [h2, hu]
  rw [coe_sum]
  refine sum_congr rfl fun k _ => ?_
  rw [EReal.coe_mul, mul_comm]

/-- The reference's similarities, from the scaled rows. -/
theorem S_apply (A0 A3 A5 : FVec Ideal S512x512 .f32) (A2 : IVec S512 32) (A4 : FVec Ideal S512 .f32) (h2 : ∀ i : Fin 512, A2 (ix1 i) = BitVec.ofNat 32 i.val)
    (u : Fin 512 → Fin 512 → ℝ) (hu : ∀ i k, Ideal.div (proj A0 A3 A4 i k) (Ideal.sqrt (∑ k, proj A0 A3 A4 i k * proj A0 A3 A4 i k)) = (u i k : EReal)) (i j : Fin 512) :
    RefStages.S A0 A2 A3 A4 A5 (ix2 i j) = ((∑ k, u i k * u j k : ℝ) : EReal) := by
  unfold RefStages.S
  rw [RefReads.sims_apply, coe_sum]
  refine sum_congr rfl fun k _ => ?_
  have hf : ∀ i k, RefStages.f2 A0 A3 A4 (ix2 i k) = proj A0 A3 A4 i k := fun i k => RefReads.f2_apply ..
  have hn : ∀ i k, RefStages.fn (RefStages.f2 A0 A3 A4) (ix2 i k) = (u i k : EReal) := by
    intro i k
    rw [RefReads.fn_apply]
    simp only [hf]
    exact hu i k
  rw [Sorted.memory_apply, hn, hn, EReal.coe_mul]
  intro a
  rw [RefReads.slots_apply, h2, RefRow.wrap]

/-- Under the precondition the kernel and the reference compute the same number. -/
theorem same_value [Cert.Pre_resolved.Facts] (A0 : FVec Ideal S512x512 .f32) (A1 A2 : IVec S512 32) (A3 : FVec Ideal S512x512 .f32) (A4 : FVec Ideal S512 .f32)
    (A5 : FVec Ideal S512x512 .f32) (A6 : FVec Ideal S512 .f32) (A7 : IVec S512 32) (A8 : FVec Ideal S512x512 .f32)
    (A9 : IVec S512x512 16) (A10 : IVec S16x512 32) (h : Cert.Pre_resolved.fn (F := Ideal) A0 A1 A2 A3 A4 A5 A6 A7 A8 A9 A10 = fun _ => 1#1)
    (x2 : FVec Ideal S1x512 .f32) (x3 : IVec S1x512 32) (e2 : ∀ k, x2 (ix2 0 k) = A4 (ix1 k)) (e3 : ∀ i, x3 (ix2 0 i) = A1 (ix1 i)) :
    Chain.kOut (F := Ideal) A0 A3 x2 x3 A9 A10 (ix2 0 0) = RefStages.out (F := Ideal) A0 A1 A2 A3 A4 A5 A6 A7 A8 (ix2 0 0) := by
  obtain ⟨h2, h7, hp, h8, hr⟩ := PreDecode.decode A0 A1 A2 A3 A4 A5 A6 A7 A8 A9 A10 (congrFun h ix0) (proj A0 A3 A4) fun _ _ => rfl
  choose u hu hd hu1 using fun i => unit_row (proj A0 A3 A4 i) (hp i)
  have hσ : ∀ i j, -1 ≤ ∑ k, u i k * u j k ∧ ∑ k, u i k * u j k ≤ 1 := fun i j => abs_dot_le _ _ (hu1 i) (hu1 j)
  have hsplit : ∀ (i : Fin 512) (L : Fin 16), A1 (ix1 i) = BitVec.ofNat 32 L.val → Split L fun j => ∑ k, u i k * u j k := by
    intro i L hL
    refine (hr i L hL).2.2 _ fun j => ?_
    rw [coe_sum]
    refine sum_congr rfl fun k _ => ?_
    rw [hd, hd, EReal.coe_mul]
  have hacc : ∀ i : Fin 512, ∃ y : ℝ, ∀ L : Fin 16, A1 (ix1 i) = BitVec.ofNat 32 L.val →
      Row (fun j => ∑ k, u i k * u j k) (pos L) (PreDecode.Chosen A9 A10 i L) y ∧ (Chain.ext (F := Ideal) A0 A3 x2 x3 A9 A10 8).acc (ix2 0 i) = (y : EReal) := by
    intro i
    by_cases hL : ∃ L : Fin 16, A1 (ix1 i) = BitVec.ofNat 32 L.val
    · obtain ⟨L, hL⟩ := hL
      obtain ⟨y, hy, ha⟩ := KernelRow.acc_row i L (fun j => ∑ k, u i k * u j k) (hσ i) A0 A3 x2 x3 A9 A10 (pay2_apply A0 A3 A4 x2 e2 u hu i) ((e3 i).trans hL) (hsplit i L hL)
      refine ⟨y, fun M hM => ?_⟩
      rw [← (KernelRow.label_inj L M).1 (hL.symm.trans hM)]
      exact ⟨hy, ha⟩
    · exact ⟨0, fun L h => absurd ⟨L, h⟩ hL⟩
  choose Y hY using hacc
  rw [KernelRow.kOut_total A0 A3 x2 x3 A9 A10 Y fun i ⟨L, hL⟩ => (hY i L ((e3 i).symm.trans hL)).2]
  simp only [e3]
  have hC : ∀ i : Fin 512, ∃ C : Finset (Fin 512), ∀ L : Fin 16, A1 (ix1 i) = BitVec.ofNat 32 L.val → C = PreDecode.Chosen A9 A10 i L := by
    intro i
    by_cases hL : ∃ L : Fin 16, A1 (ix1 i) = BitVec.ofNat 32 L.val
    · obtain ⟨L, hL⟩ := hL
      exact ⟨_, fun M hM => by rw [← (KernelRow.label_inj L M).1 (hL.symm.trans hM)]⟩
    · exact ⟨∅, fun L h => absurd ⟨L, h⟩ hL⟩
  choose C hC using hC
  refine (RefValue.out_total A0 A3 A5 A8 A1 A2 A7 A4 A6 (fun i j => ∑ k, u i k * u j k) hσ (S_apply A0 A3 A5 A2 A4 h2 u hd) h2 h7 C Y h8 fun i L hL => ?_).symm
  obtain ⟨hc, hm, -⟩ := hr i L hL
  rw [hC i L hL]
  exact ⟨hc, fun j hj => ((mem_filter.1 hj).2).1, hm, (hY i L hL).1⟩

end Cert.Final

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_resolved
public import proofs.«01_k».proof.Proof.Final
public import Idealize.ShloMosaic.Adequacy
public import Idealize.ShloMosaic.Init
public import Idealize.ShloMosaic.Lib.Quiescent

/-! The certificate. -/

@[expose] public section

noncomputable section

namespace Cert.Proof
open Idealize.ShloMosaic Idealize.SL.Sem Cert.Kernel

/-- The reference runs to the end and leaves its arguments as they were. -/
theorem referenceFrame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal program's two named constants stand for the numbers printed beside them. -/
theorem preserves : Cert.preserves_Kernel_KernelIdeal :=
  ⟨IdealRules.named_const.statement Cert.KernelIdeal.κ "inv_T" .f32 0x3FA00000#32 ((16777216 / 13421773 : ℝ) : EReal) rfl,
   IdealRules.named_const.statement Cert.KernelIdeal.κ "two_over_T" .f32 0x40200000#32 ((33554432 / 13421773 : ℝ) : EReal) rfl⟩

/-- A one-entry array is its one entry. -/
theorem one_entry {x y : FVec Ideal Cert.KernelIdeal.S1x1 .f32} (h : x (ix2 0 0) = y (ix2 0 0)) : x = y := by
  funext j
  rw [eq_ix2 j, show j 0 = (0 : Fin 1) from Subsingleton.elim (α := Fin 1) _ _, show j 1 = (0 : Fin 1) from Subsingleton.elim (α := Fin 1) _ _]
  exact h

/-- The kernel's result is the reference's, from arguments that meet the precondition. -/
theorem results (m : (ℓ : Loc Cert.KernelIdeal.nD Cert.KernelIdeal.τ Cert.KernelIdeal.sig) → Buf (Elt Ideal) ℓ) (c : Dev Cert.KernelIdeal.nD)
    (h : Cert.Pre_KernelIdeal_resolved m) : Cert.KernelValue.kRes (F := Ideal) m c
      = Cert.RefStages.out (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) := by
  refine one_entry (Cert.Final.same_value _ _ _ _ _ _ _ _ _ _ _ (h c) _ _ (fun k => ?_) fun i => ?_)
  · pointwise [Cert.KernelValue.biasRow]
  · pointwise [Cert.KernelValue.labelRow]

/-- The kernel and the reference compute the same number. -/
theorem algebraic : Cert.algebraic_KernelIdeal_ReferenceIdeal_pre_resolved := by
  intro m g m' g' hp hm
  refine ⟨fun c => Cert.KernelValue.kRes (F := Ideal) m c, Cert.KernelValue.run (F := Ideal) m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, -, -⟩ := hm c
  rw [Cert.RefStages.res_eq, e0, e1, e2, e3, e4, e5, e6, e7, e8]
  exact (results m c hp).symm

/-- Everything the certificate claims. -/
theorem claim : Cert.Claim := ⟨Cert.Kernel.Gen.facts, Cert.KernelIdeal.Gen.facts, Cert.ReferenceIdeal.Gen.facts,
  Cert.Pre_resolved.Gen.facts,
  fun m ρ _ => Cert.Kernel.Gen.frame m ρ,
  fun m ρ _ => Cert.KernelIdeal.Gen.frame m ρ,
  fun m ρ _ => Cert.KernelIdeal.Gen.frame m ρ,
  referenceFrame, fun m ρ _ => referenceFrame m ρ trivial, preserves, algebraic⟩

end Cert.Proof

end
